-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x1024 : Shape := ⟨3, ![8, 4096, 1024]⟩
abbrev S8x6144 : Shape := ⟨2, ![8, 6144]⟩
abbrev S1024 : Shape := ⟨1, ![1024]⟩
abbrev S1024x4608 : Shape := ⟨2, ![1024, 4608]⟩
abbrev S4608 : Shape := ⟨1, ![4608]⟩
abbrev S8x257 : Shape := ⟨2, ![8, 257]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S641 : Shape := ⟨1, ![641]⟩
abbrev S8x6x1024 : Shape := ⟨3, ![8, 6, 1024]⟩
abbrev S8x3x1024 : Shape := ⟨3, ![8, 3, 1024]⟩
abbrev S1x1024 : Shape := ⟨2, ![1, 1024]⟩
abbrev S1x4608 : Shape := ⟨2, ![1, 4608]⟩
abbrev S_ : Shape := ⟨0, ![]⟩
abbrev S641x1 : Shape := ⟨2, ![641, 1]⟩
abbrev S8x641 : Shape := ⟨2, ![8, 641]⟩
abbrev S1x8x1x641 : Shape := ⟨4, ![1, 8, 1, 641]⟩
abbrev S1x8x64x641 : Shape := ⟨4, ![1, 8, 64, 641]⟩
abbrev S8x41024 : Shape := ⟨2, ![8, 41024]⟩
abbrev S8x40960 : Shape := ⟨2, ![8, 40960]⟩
abbrev S8x64x640 : Shape := ⟨3, ![8, 64, 640]⟩
abbrev S8x64x576 : Shape := ⟨3, ![8, 64, 576]⟩
abbrev S8x64x64 : Shape := ⟨3, ![8, 64, 64]⟩
abbrev S8x128x640 : Shape := ⟨3, ![8, 128, 640]⟩
abbrev S2x512x640 : Shape := ⟨3, ![2, 512, 640]⟩
abbrev S1x512 : Shape := ⟨2, ![1, 512]⟩
abbrev S1x512x1024 : Shape := ⟨3, ![1, 512, 1024]⟩
abbrev S1x3x1024 : Shape := ⟨3, ![1, 3, 1024]⟩
abbrev S32x5632 : Shape := ⟨2, ![32, 5632]⟩
abbrev S176x1024 : Shape := ⟨2, ![176, 1024]⟩
abbrev S4x2x512x256 : Shape := ⟨4, ![4, 2, 512, 256]⟩
abbrev S2x512x512 : Shape := ⟨3, ![2, 512, 512]⟩
abbrev S512x512 : Shape := ⟨2, ![512, 512]⟩
abbrev S4x544x128 : Shape := ⟨3, ![4, 544, 128]⟩
abbrev S2x512x1024 : Shape := ⟨3, ![2, 512, 1024]⟩
abbrev S1x512x512 : Shape := ⟨3, ![1, 512, 512]⟩
abbrev S4x32x128 : Shape := ⟨3, ![4, 32, 128]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S128x256 : Shape := ⟨2, ![128, 256]⟩
abbrev S1x640 : Shape := ⟨2, ![1, 640]⟩
abbrev S128x1024 : Shape := ⟨2, ![128, 1024]⟩
abbrev S128x512 : Shape := ⟨2, ![128, 512]⟩
abbrev S128x128 : Shape := ⟨2, ![128, 128]⟩
abbrev S1x128x128 : Shape := ⟨3, ![1, 128, 128]⟩
abbrev S1x128 : Shape := ⟨2, ![1, 128]⟩
abbrev S1x32x128 : Shape := ⟨3, ![1, 32, 128]⟩
abbrev S32x128 : Shape := ⟨2, ![32, 128]⟩
abbrev S32x512 : Shape := ⟨2, ![32, 512]⟩
abbrev S32 : Shape := ⟨1, ![32]⟩
abbrev S32x1 : Shape := ⟨2, ![32, 1]⟩
abbrev S1024x256 : Shape := ⟨2, ![1024, 256]⟩
abbrev S512x256 : Shape := ⟨2, ![512, 256]⟩
abbrev S1x256 : Shape := ⟨2, ![1, 256]⟩
abbrev S1x1x128x256 : Shape := ⟨4, ![1, 1, 128, 256]⟩
abbrev S1x512x256 : Shape := ⟨3, ![1, 512, 256]⟩
abbrev S1x128x256 : Shape := ⟨3, ![1, 128, 256]⟩
abbrev S640x256 : Shape := ⟨2, ![640, 256]⟩
abbrev S1x1x512x256 : Shape := ⟨4, ![1, 1, 512, 256]⟩
abbrev S512x640 : Shape := ⟨2, ![512, 640]⟩
abbrev S1x512x640 : Shape := ⟨3, ![1, 512, 640]⟩
abbrev S512x1 : Shape := ⟨2, ![512, 1]⟩
abbrev S1x384x256 : Shape := ⟨3, ![1, 384, 256]⟩
abbrev S384x256 : Shape := ⟨2, ![384, 256]⟩
abbrev S1x256x256 : Shape := ⟨3, ![1, 256, 256]⟩
abbrev S256x256 : Shape := ⟨2, ![256, 256]⟩
abbrev S384x1024 : Shape := ⟨2, ![384, 1024]⟩
abbrev S384x512 : Shape := ⟨2, ![384, 512]⟩
abbrev S384x128 : Shape := ⟨2, ![384, 128]⟩
abbrev S1x384x128 : Shape := ⟨3, ![1, 384, 128]⟩

abbrev nBuf : Space → Nat
  | .hbm => 53
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x4608, .f32⟩
  | .hbm, ⟨5, _⟩ => ⟨S4608, .f32⟩
  | .hbm, ⟨6, _⟩ => ⟨S8x257, .f32⟩
  | .hbm, ⟨7, _⟩ => ⟨S512x1024, .f32⟩
  | .hbm, ⟨8, _⟩ => ⟨S31x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S1024, .f32⟩
  | .hbm, ⟨14, _⟩ => ⟨S1024x1024, .f32⟩
  | .hbm, ⟨15, _⟩ => ⟨S1024x5632, .f32⟩
  | .hbm, ⟨16, _⟩ => ⟨S2816x1024, .f32⟩
  | .hbm, ⟨17, _⟩ => ⟨S641, .i32⟩
  | .hbm, ⟨18, _⟩ => ⟨S641, .i1⟩
  | .hbm, ⟨19, _⟩ => ⟨S8x6x1024, .f32⟩
  | .hbm, ⟨20, _⟩ => ⟨S8x3x1024, .f32⟩
  | .hbm, ⟨21, _⟩ => ⟨S1x1024, .f32⟩
  | .hbm, ⟨22, _⟩ => ⟨S1x1024, .f32⟩
  | .hbm, ⟨23, _⟩ => ⟨S1024x4608, .bf16⟩
  | .hbm, ⟨24, _⟩ => ⟨S1x4608, .f32⟩
  | .hbm, ⟨25, _⟩ => ⟨S_, .i32⟩
  | .hbm, ⟨26, _⟩ => ⟨S641, .i32⟩
  | .hbm, ⟨27, _⟩ => ⟨S641, .i32⟩
  | .hbm, ⟨28, _⟩ => ⟨S641, .i32⟩
  | .hbm, ⟨29, _⟩ => ⟨S641x1, .i32⟩
  | .hbm, ⟨30, _⟩ => ⟨S8x641, .f32⟩
  | .hbm, ⟨31, _⟩ => ⟨S1x8x1x641, .f32⟩
  | .hbm, ⟨32, _⟩ => ⟨S1x8x64x641, .f32⟩
  | .hbm, ⟨33, _⟩ => ⟨S8x41024, .f32⟩
  | .hbm, ⟨34, _⟩ => ⟨S8x40960, .f32⟩
  | .hbm, ⟨35, _⟩ => ⟨S8x64x640, .f32⟩
  | .hbm, ⟨36, _⟩ => ⟨S8x64x576, .f32⟩
  | .hbm, ⟨37, _⟩ => ⟨S_, .f32⟩
  | .hbm, ⟨38, _⟩ => ⟨S8x64x64, .f32⟩
  | .hbm, ⟨39, _⟩ => ⟨S8x64x640, .f32⟩
  | .hbm, ⟨40, _⟩ => ⟨S8x64x640, .f32⟩
  | .hbm, ⟨41, _⟩ => ⟨S8x128x640, .f32⟩
  | .hbm, ⟨42, _⟩ => ⟨S2x512x640, .f32⟩
  | .hbm, ⟨43, _⟩ => ⟨S512x1024, .bf16⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S512x1024, .bf16⟩
  | .hbm, ⟨48, _⟩ => ⟨S1x1024, .f32⟩
  | .hbm, ⟨49, _⟩ => ⟨S1024x1024, .bf16⟩
  | .hbm, ⟨50, _⟩ => ⟨S8x4096x1024, .f32⟩
  | .hbm, ⟨51, _⟩ => ⟨S1024x5632, .bf16⟩
  | .hbm, ⟨52, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x4608, .bf16⟩
  | .local _ .vmem, ⟨7, _⟩ => ⟨S1x4608, .f32⟩
  | .local _ .vmem, ⟨8, _⟩ => ⟨S2x512x640, .f32⟩
  | .local _ .vmem, ⟨9, _⟩ => ⟨S512x1024, .bf16⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S1x1024, .f32⟩
  | .local _ .vmem, ⟨16, _⟩ => ⟨S1024x1024, .bf16⟩
  | .local _ .vmem, ⟨17, _⟩ => ⟨S32x5632, .f32⟩
  | .local _ .vmem, ⟨18, _⟩ => ⟨S32x5632, .f32⟩
  | .local _ .vmem, ⟨19, _⟩ => ⟨S176x1024, .f32⟩
  | .local _ .vmem, ⟨20, _⟩ => ⟨S176x1024, .f32⟩
  | .local _ .vmem, ⟨21, _⟩ => ⟨S1x512x1024, .f32⟩
  | .local _ .vmem, ⟨22, _⟩ => ⟨S1x512x1024, .f32⟩
  | .local _ .vmem, ⟨23, _⟩ => ⟨S32x5632, .bf16⟩
  | .local _ .vmem, ⟨24, _⟩ => ⟨S32x5632, .bf16⟩
  | .local _ .vmem, ⟨25, _⟩ => ⟨S176x1024, .bf16⟩
  | .local _ .vmem, ⟨26, _⟩ => ⟨S176x1024, .bf16⟩
  | .local _ .vmem, ⟨27, _⟩ => ⟨S512x1024, .bf16⟩
  | .local _ .vmem, ⟨28, _⟩ => ⟨S4x2x512x256, .bf16⟩
  | .local _ .vmem, ⟨29, _⟩ => ⟨S2x512x512, .bf16⟩
  | .local _ .vmem, ⟨30, _⟩ => ⟨S2x512x512, .bf16⟩
  | .local _ .vmem, ⟨31, _⟩ => ⟨S512x512, .bf16⟩
  | .local _ .vmem, ⟨32, _⟩ => ⟨S4x544x128, .f32⟩
  | .local _ .vmem, ⟨33, _⟩ => ⟨S512x512, .bf16⟩
  | .local _ .vmem, ⟨34, _⟩ => ⟨S2x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v64 : Index := Scalar.indexCast v15
  let c0_38 : Index := 0#32
  let c0_39 : Index := 0#32
  ![v64.toNat, 0, 0]
def k0_off2 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v103 : Index := Scalar.indexCast v15
  let c256_57 : Index := 256#32
  let c0_58 : Index := 0#32
  ![v103.toNat, 256, 0]
def k0_off3 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v172 : Index := Scalar.indexCast v15
  let c0_91 : Index := 0#32
  let c0_92 : Index := 0#32
  ![v172.toNat, 0, 0]
def k0_off4 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3554 : Index := Scalar.indexCast v16
  let c0_2708 : Index := 0#32
  let c0_2709 : Index := 0#32
  ![v3554.toNat, 0, 0]
def k0_off5 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3557 : Index := Scalar.indexCast v15
  let c0_2710 : Index := 0#32
  let c0_2711 : Index := 0#32
  ![v3557.toNat, 0, 0]
def k0_off6 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3608 : Index := Scalar.indexCast v16
  let c0_2734 : Index := 0#32
  let c256_2735 : Index := 256#32
  ![v3608.toNat, 0, 256]
def k0_off7 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3611 : Index := Scalar.indexCast v15
  let c0_2736 : Index := 0#32
  let c256_2737 : Index := 256#32
  ![v3611.toNat, 0, 256]
def k0_off8 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3672 : Index := Scalar.indexCast v16
  let c128_2766 : Index := 128#32
  let c0_2767 : Index := 0#32
  ![v3672.toNat, 128, 0]
def k0_off9 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3675 : Index := Scalar.indexCast v15
  let c0_2768 : Index := 0#32
  let c0_2769 : Index := 0#32
  ![v3675.toNat, 0, 0]
def k0_off10 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3726 : Index := Scalar.indexCast v16
  let c128_2792 : Index := 128#32
  let c256_2793 : Index := 256#32
  ![v3726.toNat, 128, 256]
def k0_off11 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3729 : Index := Scalar.indexCast v15
  let c0_2794 : Index := 0#32
  let c256_2795 : Index := 256#32
  ![v3729.toNat, 0, 256]
def k0_off12 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3790 : Index := Scalar.indexCast v16
  let c256_2824 : Index := 256#32
  let c0_2825 : Index := 0#32
  ![v3790.toNat, 256, 0]
def k0_off13 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3793 : Index := Scalar.indexCast v15
  let c0_2826 : Index := 0#32
  let c0_2827 : Index := 0#32
  ![v3793.toNat, 0, 0]
def k0_off14 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3844 : Index := Scalar.indexCast v16
  let c256_2850 : Index := 256#32
  let c256_2851 : Index := 256#32
  ![v3844.toNat, 256, 256]
def k0_off15 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3847 : Index := Scalar.indexCast v15
  let c0_2852 : Index := 0#32
  let c256_2853 : Index := 256#32
  ![v3847.toNat, 0, 256]
def k0_off16 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3908 : Index := Scalar.indexCast v16
  let c384_2881 : Index := 384#32
  let c0_2882 : Index := 0#32
  ![v3908.toNat, 384, 0]
def k0_off17 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3911 : Index := Scalar.indexCast v15
  let c0_2883 : Index := 0#32
  let c0_2884 : Index := 0#32
  ![v3911.toNat, 0, 0]
def k0_off18 (i : grid0.Coords) : Fin 3 → Nat :=
  let c1_i32_10 : BitVec 32 := 1#32
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v16 : BitVec 32 := Scalar.subi c1_i32_10 v15
  let v3962 : Index := Scalar.indexCast v16
  let c384_2907 : Index := 384#32
  let c256_2908 : Index := 256#32
  ![v3962.toNat, 384, 256]
def k0_off19 (i : grid0.Coords) : Fin 3 → Nat :=
  let arg1 : BitVec 32 := BitVec.ofNat 32 (i 1).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg1 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let v3965 : Index := Scalar.indexCast v15
  let c0_2909 : Index := 0#32
  let c256_2910 : Index := 256#32
  ![v3965.toNat, 0, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.subi v1 c32_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.subi v1 c32_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x512x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S32x5632 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x6144 : Shape := ⟨2, ![8, 6144]⟩
abbrev S1024 : Shape := ⟨1, ![1024]⟩
abbrev S1024x4608 : Shape := ⟨2, ![1024, 4608]⟩
abbrev S4608 : Shape := ⟨1, ![4608]⟩
abbrev S8x257 : Shape := ⟨2, ![8, 257]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4608 : Shape := ⟨3, ![8, 4096, 4608]⟩
abbrev S1x1x4608 : Shape := ⟨3, ![1, 1, 4608]⟩
abbrev S8x4096x512 : Shape := ⟨3, ![8, 4096, 512]⟩
abbrev S8x64x64x8x64 : Shape := ⟨5, ![8, 64, 64, 8, 64]⟩
abbrev S8x4096x8x64 : Shape := ⟨4, ![8, 4096, 8, 64]⟩
abbrev S8x72x64x8x64 : Shape := ⟨5, ![8, 72, 64, 8, 64]⟩
abbrev S8x64x1x64x8x64 : Shape := ⟨6, ![8, 64, 1, 64, 8, 64]⟩
abbrev S8x64x9x64x8x64 : Shape := ⟨6, ![8, 64, 9, 64, 8, 64]⟩
abbrev S8x64x576x8x64 : Shape := ⟨5, ![8, 64, 576, 8, 64]⟩
abbrev S8x8x64x64x576 : Shape := ⟨5, ![8, 8, 64, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S1x1x64x1x576 : Shape := ⟨5, ![1, 1, 64, 1, 576]⟩
abbrev S8x8x64x64 : Shape := ⟨4, ![8, 8, 64, 64]⟩
abbrev S8x8x64x64x1 : Shape := ⟨5, ![8, 8, 64, 64, 1]⟩
abbrev S8x64x8x64x64 : Shape := ⟨5, ![8, 64, 8, 64, 64]⟩
abbrev S8x4126x512 : Shape := ⟨3, ![8, 4126, 512]⟩
abbrev S1x512 : Shape := ⟨2, ![1, 512]⟩
abbrev S1x1x512 : Shape := ⟨3, ![1, 1, 512]⟩

abbrev nBuf : Space → Nat
  | .hbm => 519
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024, .f32⟩
  | 4 => ⟨S1024x4608, .f32⟩
  | 5 => ⟨S4608, .f32⟩
  | 6 => ⟨S8x257, .f32⟩
  | 7 => ⟨S512x1024, .f32⟩
  | 8 => ⟨S31x512, .f32⟩
  | 9 => ⟨S512, .f32⟩
  | 10 => ⟨S512, .f32⟩
  | 11 => ⟨S512, .f32⟩
  | 12 => ⟨S512x1024, .f32⟩
  | 13 => ⟨S1024, .f32⟩
  | 14 => ⟨S1024x1024, .f32⟩
  | 15 => ⟨S1024x5632, .f32⟩
  | 16 => ⟨S2816x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S_, .f32⟩
  | 46 => ⟨S8x1x1024, .f32⟩
  | 47 => ⟨S8x1x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S8x4096x4608, .f32⟩
  | 53 => ⟨S1x1x4608, .f32⟩
  | 54 => ⟨S8x4096x4608, .f32⟩
  | 55 => ⟨S8x4096x4608, .f32⟩
  | 56 => ⟨S8x4096x512, .f32⟩
  | 57 => ⟨S8x4096x512, .f32⟩
  | 58 => ⟨S8x4096x512, .f32⟩
  | 59 => ⟨S8x4096x512, .f32⟩
  | 60 => ⟨S8x4096x512, .f32⟩
  | 61 => ⟨S8x4096x1024, .f32⟩
  | 62 => ⟨S8x4096x1024, .f32⟩
  | 63 => ⟨S8x64x64x8x64, .f32⟩
  | 64 => ⟨S8x4096x8x64, .f32⟩
  | 65 => ⟨S8x64x64x8x64, .f32⟩
  | 66 => ⟨S_, .i32⟩
  | 67 => ⟨S_, .f32⟩
  | 68 => ⟨S8x72x64x8x64, .f32⟩
  | 69 => ⟨S8x64x64x8x64, .f32⟩
  | 70 => ⟨S8x64x64x8x64, .f32⟩
  | 71 => ⟨S8x64x64x8x64, .f32⟩
  | 72 => ⟨S8x64x64x8x64, .f32⟩
  | 73 => ⟨S8x64x64x8x64, .f32⟩
  | 74 => ⟨S8x64x64x8x64, .f32⟩
  | 75 => ⟨S8x64x64x8x64, .f32⟩
  | 76 => ⟨S8x64x64x8x64, .f32⟩
  | 77 => ⟨S8x64x64x8x64, .f32⟩
  | 78 => ⟨S8x64x1x64x8x64, .f32⟩
  | 79 => ⟨S8x64x1x64x8x64, .f32⟩
  | 80 => ⟨S8x64x1x64x8x64, .f32⟩
  | 81 => ⟨S8x64x1x64x8x64, .f32⟩
  | 82 => ⟨S8x64x1x64x8x64, .f32⟩
  | 83 => ⟨S8x64x1x64x8x64, .f32⟩
  | 84 => ⟨S8x64x1x64x8x64, .f32⟩
  | 85 => ⟨S8x64x1x64x8x64, .f32⟩
  | 86 => ⟨S8x64x1x64x8x64, .f32⟩
  | 87 => ⟨S8x64x9x64x8x64, .f32⟩
  | 88 => ⟨S8x64x576x8x64, .f32⟩
  | 89 => ⟨S8x4096x8x64, .f32⟩
  | 90 => ⟨S8x64x64x8x64, .f32⟩
  | 91 => ⟨S_, .i32⟩
  | 92 => ⟨S_, .f32⟩
  | 93 => ⟨S8x72x64x8x64, .f32⟩
  | 94 => ⟨S8x64x64x8x64, .f32⟩
  | 95 => ⟨S8x64x64x8x64, .f32⟩
  | 96 => ⟨S8x64x64x8x64, .f32⟩
  | 97 => ⟨S8x64x64x8x64, .f32⟩
  | 98 => ⟨S8x64x64x8x64, .f32⟩
  | 99 => ⟨S8x64x64x8x64, .f32⟩
  | 100 => ⟨S8x64x64x8x64, .f32⟩
  | 101 => ⟨S8x64x64x8x64, .f32⟩
  | 102 => ⟨S8x64x64x8x64, .f32⟩
  | 103 => ⟨S8x64x1x64x8x64, .f32⟩
  | 104 => ⟨S8x64x1x64x8x64, .f32⟩
  | 105 => ⟨S8x64x1x64x8x64, .f32⟩
  | 106 => ⟨S8x64x1x64x8x64, .f32⟩
  | 107 => ⟨S8x64x1x64x8x64, .f32⟩
  | 108 => ⟨S8x64x1x64x8x64, .f32⟩
  | 109 => ⟨S8x64x1x64x8x64, .f32⟩
  | 110 => ⟨S8x64x1x64x8x64, .f32⟩
  | 111 => ⟨S8x64x1x64x8x64, .f32⟩
  | 112 => ⟨S8x64x9x64x8x64, .f32⟩
  | 113 => ⟨S8x64x576x8x64, .f32⟩
  | 114 => ⟨S8x8x64x64x576, .f32⟩
  | 115 => ⟨S_, .f32⟩
  | 116 => ⟨S8x8x64x64x576, .f32⟩
  | 117 => ⟨S8x8x64x64x576, .f32⟩
  | 118 => ⟨S64, .i32⟩
  | 119 => ⟨S576, .i32⟩
  | 120 => ⟨S64x1, .i32⟩
  | 121 => ⟨S_, .i32⟩
  | 122 => ⟨S64x1, .i32⟩
  | 123 => ⟨S64x1, .i32⟩
  | 124 => ⟨S1x576, .i32⟩
  | 125 => ⟨S64x576, .i32⟩
  | 126 => ⟨S64x576, .i32⟩
  | 127 => ⟨S64x576, .i32⟩
  | _ => ⟨S8x4096x1024, .f32⟩

abbrev hbmTy0_1 (i : Nat) : BufTy := match i % 128 with
  | 0 => ⟨S_, .i32⟩
  | 1 => ⟨S_, .i32⟩
  | 2 => ⟨S_, .i32⟩
  | 3 => ⟨S64x576, .i32⟩
  | 4 => ⟨S64x576, .i32⟩
  | 5 => ⟨S_, .i32⟩
  | 6 => ⟨S64x576, .i32⟩
  | 7 => ⟨S64x576, .i32⟩
  | 8 => ⟨S_, .i32⟩
  | 9 => ⟨S64x576, .i32⟩
  | 10 => ⟨S64x576, .i32⟩
  | 11 => ⟨S_, .i32⟩
  | 12 => ⟨S64x576, .i32⟩
  | 13 => ⟨S64x576, .i1⟩
  | 14 => ⟨S_, .i32⟩
  | 15 => ⟨S64x576, .i32⟩
  | 16 => ⟨S64x576, .i32⟩
  | 17 => ⟨S64x576, .i32⟩
  | 18 => ⟨S64x576x1, .i32⟩
  | 19 => ⟨S8x64x576, .f32⟩
  | 20 => ⟨S1x8x1x64x576, .f32⟩
  | 21 => ⟨S8x8x64x64x576, .f32⟩
  | 22 => ⟨S8x8x64x64x576, .f32⟩
  | 23 => ⟨S64, .i32⟩
  | 24 => ⟨S64x1, .i32⟩
  | 25 => ⟨S_, .i32⟩
  | 26 => ⟨S64x1, .i32⟩
  | 27 => ⟨S64x1, .i32⟩
  | 28 => ⟨S_, .i32⟩
  | 29 => ⟨S_, .i32⟩
  | 30 => ⟨S576, .i32⟩
  | 31 => ⟨S576, .i32⟩
  | 32 => ⟨S576, .i32⟩
  | 33 => ⟨S_, .i32⟩
  | 34 => ⟨S576, .i32⟩
  | 35 => ⟨S576, .i1⟩
  | 36 => ⟨S576, .i32⟩
  | 37 => ⟨S576, .i32⟩
  | 38 => ⟨S_, .i32⟩
  | 39 => ⟨S576, .i32⟩
  | 40 => ⟨S576, .i1⟩
  | 41 => ⟨S576, .i1⟩
  | 42 => ⟨S_, .i32⟩
  | 43 => ⟨S576, .i32⟩
  | 44 => ⟨S576, .i32⟩
  | 45 => ⟨S576, .i32⟩
  | 46 => ⟨S1x576, .i32⟩
  | 47 => ⟨S64x576, .i32⟩
  | 48 => ⟨S64x576, .i32⟩
  | 49 => ⟨S64x576, .i32⟩
  | 50 => ⟨S_, .i32⟩
  | 51 => ⟨S64x576, .i32⟩
  | 52 => ⟨S64x576, .i1⟩
  | 53 => ⟨S1x1x64x1x576, .i1⟩
  | 54 => ⟨S_, .f32⟩
  | 55 => ⟨S_, .f32⟩
  | 56 => ⟨S8x8x64x64x576, .i1⟩
  | 57 => ⟨S8x8x64x64x576, .f32⟩
  | 58 => ⟨S8x8x64x64x576, .f32⟩
  | 59 => ⟨S_, .f32⟩
  | 60 => ⟨S8x8x64x64, .f32⟩
  | 61 => ⟨S_, .f32⟩
  | 62 => ⟨S8x8x64x64, .f32⟩
  | 63 => ⟨S8x8x64x64, .f32⟩
  | 64 => ⟨S8x8x64x64x1, .f32⟩
  | 65 => ⟨S8x8x64x64x576, .f32⟩
  | 66 => ⟨S8x8x64x64x576, .f32⟩
  | 67 => ⟨S8x8x64x64x576, .f32⟩
  | 68 => ⟨S_, .f32⟩
  | 69 => ⟨S8x8x64x64, .f32⟩
  | 70 => ⟨S8x8x64x64x1, .f32⟩
  | 71 => ⟨S8x8x64x64x576, .f32⟩
  | 72 => ⟨S8x8x64x64x576, .f32⟩
  | 73 => ⟨S8x64x8x64x64, .f32⟩
  | 74 => ⟨S8x64x64x8x64, .f32⟩
  | 75 => ⟨S8x4096x512, .f32⟩
  | 76 => ⟨S8x4096x1024, .f32⟩
  | 77 => ⟨S8x4096x512, .f32⟩
  | 78 => ⟨S8x4096x512, .f32⟩
  | 79 => ⟨S_, .f32⟩
  | 80 => ⟨S8x4096x512, .f32⟩
  | 81 => ⟨S8x4096x512, .f32⟩
  | 82 => ⟨S_, .f32⟩
  | 83 => ⟨S8x4096x512, .f32⟩
  | 84 => ⟨S8x4096x512, .f32⟩
  | 85 => ⟨S8x4096x512, .f32⟩
  | 86 => ⟨S_, .i32⟩
  | 87 => ⟨S_, .f32⟩
  | 88 => ⟨S8x4126x512, .f32⟩
  | 89 => ⟨S1x512, .f32⟩
  | 90 => ⟨S512, .f32⟩
  | 91 => ⟨S8x4096x512, .f32⟩
  | 92 => ⟨S1x1x512, .f32⟩
  | 93 => ⟨S8x4096x512, .f32⟩
  | 94 => ⟨S8x4096x512, .f32⟩
  | 95 => ⟨S1x512, .f32⟩
  | 96 => ⟨S512, .f32⟩
  | 97 => ⟨S8x4096x512, .f32⟩
  | 98 => ⟨S1x1x512, .f32⟩
  | 99 => ⟨S8x4096x512, .f32⟩
  | 100 => ⟨S8x4096x512, .f32⟩
  | 101 => ⟨S8x4096x512, .f32⟩
  | 102 => ⟨S1x512, .f32⟩
  | 103 => ⟨S512, .f32⟩
  | 104 => ⟨S8x4096x512, .f32⟩
  | 105 => ⟨S1x1x512, .f32⟩
  | 106 => ⟨S8x4096x512, .f32⟩
  | 107 => ⟨S8x4096x512, .f32⟩
  | 108 => ⟨S8x4096x512, .f32⟩
  | 109 => ⟨S1x512, .f32⟩
  | 110 => ⟨S512, .f32⟩
  | 111 => ⟨S8x4096x512, .f32⟩
  | 112 => ⟨S1x1x512, .f32⟩
  | 113 => ⟨S8x4096x512, .f32⟩
  | 114 => ⟨S8x4096x512, .f32⟩
  | 115 => ⟨S8x4096x512, .f32⟩
  | 116 => ⟨S1x512, .f32⟩
  | 117 => ⟨S512, .f32⟩
  | 118 => ⟨S8x4096x512, .f32⟩
  | 119 => ⟨S1x1x512, .f32⟩
  | 120 => ⟨S8x4096x512, .f32⟩
  | 121 => ⟨S8x4096x512, .f32⟩
  | 122 => ⟨S8x4096x512, .f32⟩
  | 123 => ⟨S1x512, .f32⟩
  | 124 => ⟨S512, .f32⟩
  | 125 => ⟨S8x4096x512, .f32⟩
  | 126 => ⟨S1x1x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S8x4096x512, .f32⟩
  | 2 => ⟨S1x512, .f32⟩
  | 3 => ⟨S512, .f32⟩
  | 4 => ⟨S8x4096x512, .f32⟩
  | 5 => ⟨S1x1x512, .f32⟩
  | 6 => ⟨S8x4096x512, .f32⟩
  | 7 => ⟨S8x4096x512, .f32⟩
  | 8 => ⟨S8x4096x512, .f32⟩
  | 9 => ⟨S1x512, .f32⟩
  | 10 => ⟨S512, .f32⟩
  | 11 => ⟨S8x4096x512, .f32⟩
  | 12 => ⟨S1x1x512, .f32⟩
  | 13 => ⟨S8x4096x512, .f32⟩
  | 14 => ⟨S8x4096x512, .f32⟩
  | 15 => ⟨S8x4096x512, .f32⟩
  | 16 => ⟨S1x512, .f32⟩
  | 17 => ⟨S512, .f32⟩
  | 18 => ⟨S8x4096x512, .f32⟩
  | 19 => ⟨S1x1x512, .f32⟩
  | 20 => ⟨S8x4096x512, .f32⟩
  | 21 => ⟨S8x4096x512, .f32⟩
  | 22 => ⟨S8x4096x512, .f32⟩
  | 23 => ⟨S1x512, .f32⟩
  | 24 => ⟨S512, .f32⟩
  | 25 => ⟨S8x4096x512, .f32⟩
  | 26 => ⟨S1x1x512, .f32⟩
  | 27 => ⟨S8x4096x512, .f32⟩
  | 28 => ⟨S8x4096x512, .f32⟩
  | 29 => ⟨S8x4096x512, .f32⟩
  | 30 => ⟨S1x512, .f32⟩
  | 31 => ⟨S512, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S1x512, .f32⟩
  | 38 => ⟨S512, .f32⟩
  | 39 => ⟨S8x4096x512, .f32⟩
  | 40 => ⟨S1x1x512, .f32⟩
  | 41 => ⟨S8x4096x512, .f32⟩
  | 42 => ⟨S8x4096x512, .f32⟩
  | 43 => ⟨S8x4096x512, .f32⟩
  | 44 => ⟨S1x512, .f32⟩
  | 45 => ⟨S512, .f32⟩
  | 46 => ⟨S8x4096x512, .f32⟩
  | 47 => ⟨S1x1x512, .f32⟩
  | 48 => ⟨S8x4096x512, .f32⟩
  | 49 => ⟨S8x4096x512, .f32⟩
  | 50 => ⟨S8x4096x512, .f32⟩
  | 51 => ⟨S1x512, .f32⟩
  | 52 => ⟨S512, .f32⟩
  | 53 => ⟨S8x4096x512, .f32⟩
  | 54 => ⟨S1x1x512, .f32⟩
  | 55 => ⟨S8x4096x512, .f32⟩
  | 56 => ⟨S8x4096x512, .f32⟩
  | 57 => ⟨S8x4096x512, .f32⟩
  | 58 => ⟨S1x512, .f32⟩
  | 59 => ⟨S512, .f32⟩
  | 60 => ⟨S8x4096x512, .f32⟩
  | 61 => ⟨S1x1x512, .f32⟩
  | 62 => ⟨S8x4096x512, .f32⟩
  | 63 => ⟨S8x4096x512, .f32⟩
  | 64 => ⟨S8x4096x512, .f32⟩
  | 65 => ⟨S1x512, .f32⟩
  | 66 => ⟨S512, .f32⟩
  | 67 => ⟨S8x4096x512, .f32⟩
  | 68 => ⟨S1x1x512, .f32⟩
  | 69 => ⟨S8x4096x512, .f32⟩
  | 70 => ⟨S8x4096x512, .f32⟩
  | 71 => ⟨S8x4096x512, .f32⟩
  | 72 => ⟨S1x512, .f32⟩
  | 73 => ⟨S512, .f32⟩
  | 74 => ⟨S8x4096x512, .f32⟩
  | 75 => ⟨S1x1x512, .f32⟩
  | 76 => ⟨S8x4096x512, .f32⟩
  | 77 => ⟨S8x4096x512, .f32⟩
  | 78 => ⟨S8x4096x512, .f32⟩
  | 79 => ⟨S1x512, .f32⟩
  | 80 => ⟨S512, .f32⟩
  | 81 => ⟨S8x4096x512, .f32⟩
  | 82 => ⟨S1x1x512, .f32⟩
  | 83 => ⟨S8x4096x512, .f32⟩
  | 84 => ⟨S8x4096x512, .f32⟩
  | 85 => ⟨S8x4096x512, .f32⟩
  | 86 => ⟨S1x512, .f32⟩
  | 87 => ⟨S512, .f32⟩
  | 88 => ⟨S8x4096x512, .f32⟩
  | 89 => ⟨S1x1x512, .f32⟩
  | 90 => ⟨S8x4096x512, .f32⟩
  | 91 => ⟨S8x4096x512, .f32⟩
  | 92 => ⟨S8x4096x512, .f32⟩
  | 93 => ⟨S1x512, .f32⟩
  | 94 => ⟨S512, .f32⟩
  | 95 => ⟨S8x4096x512, .f32⟩
  | 96 => ⟨S1x1x512, .f32⟩
  | 97 => ⟨S8x4096x512, .f32⟩
  | 98 => ⟨S8x4096x512, .f32⟩
  | 99 => ⟨S8x4096x512, .f32⟩
  | 100 => ⟨S1x512, .f32⟩
  | 101 => ⟨S512, .f32⟩
  | 102 => ⟨S8x4096x512, .f32⟩
  | 103 => ⟨S1x1x512, .f32⟩
  | 104 => ⟨S8x4096x512, .f32⟩
  | 105 => ⟨S8x4096x512, .f32⟩
  | 106 => ⟨S8x4096x512, .f32⟩
  | 107 => ⟨S1x512, .f32⟩
  | 108 => ⟨S512, .f32⟩
  | 109 => ⟨S8x4096x512, .f32⟩
  | 110 => ⟨S1x1x512, .f32⟩
  | 111 => ⟨S8x4096x512, .f32⟩
  | 112 => ⟨S8x4096x512, .f32⟩
  | 113 => ⟨S8x4096x512, .f32⟩
  | 114 => ⟨S1x512, .f32⟩
  | 115 => ⟨S512, .f32⟩
  | 116 => ⟨S8x4096x512, .f32⟩
  | 117 => ⟨S1x1x512, .f32⟩
  | 118 => ⟨S8x4096x512, .f32⟩
  | 119 => ⟨S8x4096x512, .f32⟩
  | 120 => ⟨S8x4096x512, .f32⟩
  | 121 => ⟨S1x512, .f32⟩
  | 122 => ⟨S512, .f32⟩
  | 123 => ⟨S8x4096x512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_3 (i : Nat) : BufTy := match i % 128 with
  | 0 => ⟨S1x512, .f32⟩
  | 1 => ⟨S512, .f32⟩
  | 2 => ⟨S8x4096x512, .f32⟩
  | 3 => ⟨S1x1x512, .f32⟩
  | 4 => ⟨S8x4096x512, .f32⟩
  | 5 => ⟨S8x4096x512, .f32⟩
  | 6 => ⟨S8x4096x512, .f32⟩
  | 7 => ⟨S1x512, .f32⟩
  | 8 => ⟨S512, .f32⟩
  | 9 => ⟨S8x4096x512, .f32⟩
  | 10 => ⟨S1x1x512, .f32⟩
  | 11 => ⟨S8x4096x512, .f32⟩
  | 12 => ⟨S8x4096x512, .f32⟩
  | 13 => ⟨S8x4096x512, .f32⟩
  | 14 => ⟨S1x512, .f32⟩
  | 15 => ⟨S512, .f32⟩
  | 16 => ⟨S8x4096x512, .f32⟩
  | 17 => ⟨S1x1x512, .f32⟩
  | 18 => ⟨S8x4096x512, .f32⟩
  | 19 => ⟨S8x4096x512, .f32⟩
  | 20 => ⟨S8x4096x512, .f32⟩
  | 21 => ⟨S1x512, .f32⟩
  | 22 => ⟨S512, .f32⟩
  | 23 => ⟨S8x4096x512, .f32⟩
  | 24 => ⟨S1x1x512, .f32⟩
  | 25 => ⟨S8x4096x512, .f32⟩
  | 26 => ⟨S8x4096x512, .f32⟩
  | 27 => ⟨S8x4096x512, .f32⟩
  | 28 => ⟨S1x512, .f32⟩
  | 29 => ⟨S512, .f32⟩
  | 30 => ⟨S8x4096x512, .f32⟩
  | 31 => ⟨S1x1x512, .f32⟩
  | 32 => ⟨S8x4096x512, .f32⟩
  | 33 => ⟨S8x4096x512, .f32⟩
  | 34 => ⟨S8x4096x512, .f32⟩
  | 35 => ⟨S1x512, .f32⟩
  | 36 => ⟨S512, .f32⟩
  | 37 => ⟨S8x4096x512, .f32⟩
  | 38 => ⟨S1x1x512, .f32⟩
  | 39 => ⟨S8x4096x512, .f32⟩
  | 40 => ⟨S8x4096x512, .f32⟩
  | 41 => ⟨S8x4096x512, .f32⟩
  | 42 => ⟨S1x512, .f32⟩
  | 43 => ⟨S512, .f32⟩
  | 44 => ⟨S8x4096x512, .f32⟩
  | 45 => ⟨S1x1x512, .f32⟩
  | 46 => ⟨S8x4096x512, .f32⟩
  | 47 => ⟨S8x4096x512, .f32⟩
  | 48 => ⟨S8x4096x512, .f32⟩
  | 49 => ⟨S1x1x512, .f32⟩
  | 50 => ⟨S8x4096x512, .f32⟩
  | 51 => ⟨S8x4096x512, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S8x4096x512, .f32⟩
  | 59 => ⟨S8x4096x512, .f32⟩
  | 60 => ⟨S8x4096x512, .f32⟩
  | 61 => ⟨S_, .f32⟩
  | 62 => ⟨S8x4096, .f32⟩
  | 63 => ⟨S8x4096x1, .f32⟩
  | 64 => ⟨S_, .f32⟩
  | 65 => ⟨S8x4096x1, .f32⟩
  | 66 => ⟨S8x4096x1, .f32⟩
  | 67 => ⟨S8x4096x512, .f32⟩
  | 68 => ⟨S8x4096x512, .f32⟩
  | 69 => ⟨S_, .f32⟩
  | 70 => ⟨S8x4096x1, .f32⟩
  | 71 => ⟨S8x4096x1, .f32⟩
  | 72 => ⟨S8x4096x1, .f32⟩
  | 73 => ⟨S8x4096x512, .f32⟩
  | 74 => ⟨S8x4096x512, .f32⟩
  | 75 => ⟨S1x1x512, .f32⟩
  | 76 => ⟨S8x4096x512, .f32⟩
  | 77 => ⟨S8x4096x512, .f32⟩
  | 78 => ⟨S1x1x512, .f32⟩
  | 79 => ⟨S8x4096x512, .f32⟩
  | 80 => ⟨S8x4096x512, .f32⟩
  | 81 => ⟨S8x4096x512, .f32⟩
  | 82 => ⟨S8x4096x512, .f32⟩
  | 83 => ⟨S_, .f32⟩
  | 84 => ⟨S8x4096x512, .f32⟩
  | 85 => ⟨S8x4096x512, .f32⟩
  | 86 => ⟨S_, .f32⟩
  | 87 => ⟨S8x4096x512, .f32⟩
  | 88 => ⟨S8x4096x512, .f32⟩
  | 89 => ⟨S8x4096x512, .f32⟩
  | 90 => ⟨S8x4096x1024, .f32⟩
  | 91 => ⟨S1x1x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S_, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S_, .f32⟩
  | 106 => ⟨S8x4096x1024, .f32⟩
  | 107 => ⟨S8x4096x1024, .f32⟩
  | 108 => ⟨S_, .f32⟩
  | 109 => ⟨S8x4096x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S_, .f32⟩
  | 122 => ⟨S8x4096x1, .f32⟩
  | 123 => ⟨S8x4096x1, .f32⟩
  | 124 => ⟨S8x4096x1, .f32⟩
  | 125 => ⟨S8x4096x1024, .f32⟩
  | 126 => ⟨S8x4096x1024, .f32⟩
  | 127 => ⟨S1x1x1024, .f32⟩
  | _ => ⟨S8x4096x1024, .f32⟩

abbrev hbmTy0_4 (i : Nat) : BufTy := match i % 128 with
  | 0 => ⟨S8x4096x1024, .f32⟩
  | 1 => ⟨S8x4096x1024, .f32⟩
  | 2 => ⟨S8x4096x1024, .f32⟩
  | 3 => ⟨S8x4096x1024, .f32⟩
  | 4 => ⟨S8x4096x1024, .f32⟩
  | 5 => ⟨S1024x5632, .bf16⟩
  | 6 => ⟨S2816x1024, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c : Ref sig .tc := ⟨.hbm, 66, rfl⟩
abbrev main_call0_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_3 : Ref sig .tc := ⟨.hbm, 91, rfl⟩
abbrev main_call1_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_4 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_5 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_6 : Ref sig .tc := ⟨.hbm, 128, rfl⟩
abbrev main_c_7 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v101 : Ref sig .tc := ⟨.hbm, 135, rfl⟩
abbrev main_c_8 : Ref sig .tc := ⟨.hbm, 136, rfl⟩
abbrev main_v102 : Ref sig .tc := ⟨.hbm, 137, rfl⟩
abbrev main_v103 : Ref sig .tc := ⟨.hbm, 138, rfl⟩
abbrev main_c_9 : Ref sig .tc := ⟨.hbm, 139, rfl⟩
abbrev main_v104 : Ref sig .tc := ⟨.hbm, 140, rfl⟩
abbrev main_v105 : Ref sig .tc := ⟨.hbm, 141, rfl⟩
abbrev main_c_10 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_11 : Ref sig .tc := ⟨.hbm, 153, rfl⟩
abbrev main_v116 : Ref sig .tc := ⟨.hbm, 154, rfl⟩
abbrev main_v117 : Ref sig .tc := ⟨.hbm, 155, rfl⟩
abbrev main_c_12 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_v8 : Ref sig .tc := ⟨.hbm, 165, rfl⟩
abbrev main_call3_c : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_0 : Ref sig .tc := ⟨.hbm, 170, rfl⟩
abbrev main_call3_v12 : Ref sig .tc := ⟨.hbm, 171, rfl⟩
abbrev main_call3_v13 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_c_13 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_14 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v126 : Ref sig .tc := ⟨.hbm, 186, rfl⟩
abbrev main_cst_15 : Ref sig .tc := ⟨.hbm, 187, rfl⟩
abbrev main_v127 : Ref sig .tc := ⟨.hbm, 188, rfl⟩
abbrev main_cst_16 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_17 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_18 : Ref sig .tc := ⟨.hbm, 207, rfl⟩
abbrev main_v144 : Ref sig .tc := ⟨.hbm, 208, rfl⟩
abbrev main_v145 : Ref sig .tc := ⟨.hbm, 209, rfl⟩
abbrev main_cst_19 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_20 : Ref sig .tc := ⟨.hbm, 214, rfl⟩
abbrev main_call5_v0 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_cst_21 : Ref sig .tc := ⟨.hbm, 436, rfl⟩
abbrev main_v369 : Ref sig .tc := ⟨.hbm, 437, rfl⟩
abbrev main_v370 : Ref sig .tc := ⟨.hbm, 438, rfl⟩
abbrev main_cst_22 : Ref sig .tc := ⟨.hbm, 439, rfl⟩
abbrev main_v371 : Ref sig .tc := ⟨.hbm, 440, rfl⟩
abbrev main_v372 : Ref sig .tc := ⟨.hbm, 441, rfl⟩
abbrev main_v373 : Ref sig .tc := ⟨.hbm, 442, rfl⟩
abbrev main_v374 : Ref sig .tc := ⟨.hbm, 443, rfl⟩
abbrev main_v375 : Ref sig .tc := ⟨.hbm, 444, rfl⟩
abbrev main_cst_23 : Ref sig .tc := ⟨.hbm, 445, rfl⟩
abbrev main_v376 : Ref sig .tc := ⟨.hbm, 446, rfl⟩
abbrev main_v377 : Ref sig .tc := ⟨.hbm, 447, rfl⟩
abbrev main_cst_24 : Ref sig .tc := ⟨.hbm, 448, rfl⟩
abbrev main_v378 : Ref sig .tc := ⟨.hbm, 449, rfl⟩
abbrev main_v379 : Ref sig .tc := ⟨.hbm, 450, rfl⟩
abbrev main_v380 : Ref sig .tc := ⟨.hbm, 451, rfl⟩
abbrev main_v381 : Ref sig .tc := ⟨.hbm, 452, rfl⟩
abbrev main_cst_25 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_call6_v0 : Ref sig .tc := ⟨.hbm, 465, rfl⟩
abbrev main_call6_v1 : Ref sig .tc := ⟨.hbm, 466, rfl⟩
abbrev main_call6_cst : Ref sig .tc := ⟨.hbm, 467, rfl⟩
abbrev main_call6_v2 : Ref sig .tc := ⟨.hbm, 468, rfl⟩
abbrev main_call6_v3 : Ref sig .tc := ⟨.hbm, 469, rfl⟩
abbrev main_call6_cst_0 : Ref sig .tc := ⟨.hbm, 470, rfl⟩
abbrev main_call6_v4 : Ref sig .tc := ⟨.hbm, 471, rfl⟩
abbrev main_call6_v5 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_cst_26 : Ref sig .tc := ⟨.hbm, 480, rfl⟩
abbrev main_v400 : Ref sig .tc := ⟨.hbm, 481, rfl⟩
abbrev main_v401 : Ref sig .tc := ⟨.hbm, 482, rfl⟩
abbrev main_cst_27 : Ref sig .tc := ⟨.hbm, 483, rfl⟩
abbrev main_v402 : Ref sig .tc := ⟨.hbm, 484, rfl⟩
abbrev main_v403 : Ref sig .tc := ⟨.hbm, 485, rfl⟩
abbrev main_v404 : Ref sig .tc := ⟨.hbm, 486, rfl⟩
abbrev main_v405 : Ref sig .tc := ⟨.hbm, 487, rfl⟩
abbrev main_v406 : Ref sig .tc := ⟨.hbm, 488, rfl⟩
abbrev main_cst_28 : Ref sig .tc := ⟨.hbm, 489, rfl⟩
abbrev main_v407 : Ref sig .tc := ⟨.hbm, 490, rfl⟩
abbrev main_v408 : Ref sig .tc := ⟨.hbm, 491, rfl⟩
abbrev main_cst_29 : Ref sig .tc := ⟨.hbm, 492, rfl⟩
abbrev main_v409 : Ref sig .tc := ⟨.hbm, 493, rfl⟩
abbrev main_v410 : Ref sig .tc := ⟨.hbm, 494, rfl⟩
abbrev main_v411 : Ref sig .tc := ⟨.hbm, 495, rfl⟩
abbrev main_v412 : Ref sig .tc := ⟨.hbm, 496, rfl⟩
abbrev main_v413 : Ref sig .tc := ⟨.hbm, 497, rfl⟩
abbrev main_v414 : Ref sig .tc := ⟨.hbm, 498, rfl⟩
abbrev main_cst_30 : Ref sig .tc := ⟨.hbm, 499, rfl⟩
abbrev main_v415 : Ref sig .tc := ⟨.hbm, 500, rfl⟩
abbrev main_v416 : Ref sig .tc := ⟨.hbm, 501, rfl⟩
abbrev main_cst_31 : Ref sig .tc := ⟨.hbm, 502, rfl⟩
abbrev main_v417 : Ref sig .tc := ⟨.hbm, 503, rfl⟩
abbrev main_v418 : Ref sig .tc := ⟨.hbm, 504, rfl⟩
abbrev main_cst_32 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_v422 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩
abbrev main_v426 : Ref sig .tc := ⟨.hbm, 513, rfl⟩
abbrev main_v427 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩

abbrev nD : Nat := 1
abbrev τ : Topo := Topo.v7x

variable {F : FTy → Type} [FloatOps F]

def κ : String → Option EReal := fun
  | "mask" => some ⊥
  | _ => none
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6x1024 : Shape := ⟨3, ![8, 6, 1024]⟩
abbrev S8x3x1024 : Shape := ⟨3, ![8, 3, 1024]⟩
abbrev S1x1024 : Shape := ⟨2, ![1, 1024]⟩
abbrev S1x5632 : Shape := ⟨2, ![1, 5632]⟩
abbrev S1x1024x1024 : Shape := ⟨3, ![1, 1024, 1024]⟩
abbrev S1x3x1024 : Shape := ⟨3, ![1, 3, 1024]⟩
abbrev S1024x1024 : Shape := ⟨2, ![1024, 1024]⟩
abbrev S1024x2816 : Shape := ⟨2, ![1024, 2816]⟩
abbrev S8x1032x128 : Shape := ⟨3, ![8, 1032, 128]⟩
abbrev S44x8x128 : Shape := ⟨3, ![44, 8, 128]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S1x8x128 : Shape := ⟨3, ![1, 8, 128]⟩
abbrev S8x128 : Shape := ⟨2, ![8, 128]⟩
abbrev S1x256x128 : Shape := ⟨3, ![1, 256, 128]⟩
abbrev S1x128 : Shape := ⟨2, ![1, 128]⟩
abbrev S1024x128 : Shape := ⟨2, ![1024, 128]⟩
abbrev S1x1024x128 : Shape := ⟨3, ![1, 1024, 128]⟩
abbrev S256x2816 : Shape := ⟨2, ![256, 2816]⟩

abbrev nBuf : Space → Nat
  | .hbm => 14
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x5632, .bf16⟩
  | .hbm, ⟨5, _⟩ => ⟨S3x5632, .f32⟩
  | .hbm, ⟨6, _⟩ => ⟨S5632, .f32⟩
  | .hbm, ⟨7, _⟩ => ⟨S2816x1024, .bf16⟩
  | .hbm, ⟨8, _⟩ => ⟨S8x6x1024, .f32⟩
  | .hbm, ⟨9, _⟩ => ⟨S8x3x1024, .f32⟩
  | .hbm, ⟨10, _⟩ => ⟨S1x1024, .f32⟩
  | .hbm, ⟨11, _⟩ => ⟨S1x1024, .f32⟩
  | .hbm, ⟨12, _⟩ => ⟨S1x5632, .f32⟩
  | .hbm, ⟨13, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x2816, .bf16⟩
  | .local _ .vmem, ⟨14, _⟩ => ⟨S8x1032x128, .f32⟩
  | .local _ .vmem, ⟨15, _⟩ => ⟨S44x8x128, .f32⟩
  | .local _ .vmem, ⟨16, _⟩ => ⟨S44x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x5632, .bf16⟩
  | .hbm, ⟨5, _⟩ => ⟨S3x5632, .f32⟩
  | .hbm, ⟨6, _⟩ => ⟨S5632, .f32⟩
  | .hbm, ⟨7, _⟩ => ⟨S2816x1024, .bf16⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S1024x5632, .f32⟩
  | .hbm, ⟨44, _⟩ => ⟨S8x4096x5632, .f32⟩
  | .hbm, ⟨45, _⟩ => ⟨S_, .i32⟩
  | .hbm, ⟨46, _⟩ => ⟨S_, .f32⟩
  | .hbm, ⟨47, _⟩ => ⟨S8x4098x5632, .f32⟩
  | .hbm, ⟨48, _⟩ => ⟨S1x5632, .f32⟩
  | .hbm, ⟨49, _⟩ => ⟨S5632, .f32⟩
  | .hbm, ⟨50, _⟩ => ⟨S8x4096x5632, .f32⟩
  | .hbm, ⟨51, _⟩ => ⟨S1x1x5632, .f32⟩
  | .hbm, ⟨52, _⟩ => ⟨S8x4096x5632, .f32⟩
  | .hbm, ⟨53, _⟩ => ⟨S8x4096x5632, .f32⟩
  | .hbm, ⟨54, _⟩ => ⟨S1x5632, .f32⟩
  | .hbm, ⟨55, _⟩ => ⟨S5632, .f32⟩
  | .hbm, ⟨56, _⟩ => ⟨S8x4096x5632, .f32⟩
  | .hbm, ⟨57, _⟩ => ⟨S1x1x5632, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S1x5632, .f32⟩
  | .hbm, ⟨62, _⟩ => ⟨S5632, .f32⟩
  | .hbm, ⟨63, _⟩ => ⟨S8x4096x5632, .f32⟩
  | .hbm, ⟨64, _⟩ => ⟨S1x1x5632, .f32⟩
  | .hbm, ⟨65, _⟩ => ⟨S8x4096x5632, .f32⟩
  | .hbm, ⟨66, _⟩ => ⟨S8x4096x5632, .f32⟩
  | .hbm, ⟨67, _⟩ => ⟨S8x4096x5632, .f32⟩
  | .hbm, ⟨68, _⟩ => ⟨S1x1x5632, .f32⟩
  | .hbm, ⟨69, _⟩ => ⟨S8x4096x5632, .f32⟩
  | .hbm, ⟨70, _⟩ => ⟨S8x4096x5632, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S_, .f32⟩
  | .hbm, ⟨84, _⟩ => ⟨S8x4096x2816, .f32⟩
  | .hbm, ⟨85, _⟩ => ⟨S8x4096x2816, .f32⟩
  | .hbm, ⟨86, _⟩ => ⟨S_, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S8x4096x2816, .f32⟩
  | .hbm, ⟨91, _⟩ => ⟨S2816x1024, .f32⟩
  | .hbm, ⟨92, _⟩ => ⟨S8x4096x1024, .f32⟩
  | .hbm, ⟨93, _⟩ => ⟨S8x4096x1024, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S8x4096x1, .f32⟩
  | .hbm, ⟨104, _⟩ => ⟨S8x4096x1024, .f32⟩
  | .hbm, ⟨105, _⟩ => ⟨S8x4096x1024, .f32⟩
  | .hbm, ⟨106, _⟩ => ⟨S1x1x1024, .f32⟩
  | .hbm, ⟨107, _⟩ => ⟨S8x4096x1024, .f32⟩
  | .hbm, ⟨108, _⟩ => ⟨S8x4096x1024, .f32⟩
  | .hbm, ⟨109, _⟩ => ⟨S8x4096x1024, .f32⟩
  | .hbm, ⟨110, _⟩ => ⟨S8x4096x1024, .f32⟩
  | .hbm, ⟨111, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_cst_6 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Kernel3.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Mixer.Safe.lean ====
/-
  Programs that run without harm. `Safe P p` says that from an assertion `P` about the buffers the program `p` runs to
  an end and gives `P` back, whatever values it reads and returns. A load needs only that `P` owns the buffer it reads,
  and a store that `P` owns the buffer it writes and says nothing of its contents; so a long body is safe by its effects
  alone, one after the other.
-/
module

public import Idealize.ShloMosaic.Lib.VecWindow
public import Idealize.ShloMosaic.Lib.Claim

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

/-- The model that the propositions are over. -/
abbrev Mod (nD : Nat) (τ : Topo) (sig : RefSig) (F : FTy → Type) : Type := MT nD τ sig Unit (Elt F) ℕ (UR sig nD τ) ℕ

section

variable (defs : Defs nD τ sig (Elt F) Λ) (c : Dev nD) (P : sProp (Mod nD τ sig F))

/-- The assertion lends the buffer out at some contents and takes it back unchanged. -/
structure Reads {s : Shape} {e : EltTy} (m : Memref sig .tc .vmem s e) : Prop where
  lend : P ⊢ iprop(∃ X, owns (c : Thread nD τ) m fullShare X ∗ (owns (c : Thread nD τ) m fullShare X -∗ P))

/-- The assertion lends the buffer out at some contents and takes it back at any. -/
structure Writes {s : Shape} {e : EltTy} (m : Memref sig .tc .vmem s e) : Prop where
  lend : P ⊢ iprop((∃ X, owns (c : Thread nD τ) m fullShare X) ∗ ((∃ X, owns (c : Thread nD τ) m fullShare X) -∗ P))

/-- A buffer that may be written may be read. -/
theorem Writes.reads {s : Shape} {e : EltTy} {m : Memref sig .tc .vmem s e} (h : Writes c P m) : Reads c P m := by
  refine ⟨.trans h.lend ?_⟩
  iintro ⟨⟨%X, H⟩, HP⟩
  iexists X
  isplitl [H]; · iexact H
  iintro H
  iapply HP
  iexists X
  iexact H

/-- The program runs from the assertion and gives it back. -/
def Safe {α : Type} (p : Prog (TpuEff nD τ sig (Elt F) Λ .tc) α) : Prop :=
  ∀ (E : Set ℕ) (K : α → sProp (Mod nD τ sig F)),
    iprop(P ∗ (∀ a, P -∗ K a)) ⊢ wp frame (wpE defs Variants.none (c : Thread nD τ) none) E p K

variable {c} in
/-- Holding the elements of a buffer is owning it at some contents. -/
theorem owns_some {s : Shape} {e : EltTy} (m : Memref sig .tc .vmem s e) (f : Buf (Elt F) (m.view.loc (c : Thread nD τ))) :
    (m.view.loc (c : Thread nD τ) ↦[m.view.set]{fullShare} f : sProp (Mod nD τ sig F)) ⊢ iprop(∃ X, owns (c : Thread nD τ) m fullShare X) :=
  (show _ ⊢ iprop(∃ X, ∃ f, ⌜m.view.read (Elt F) f = X⌝ ∗ (m.view.loc (c : Thread nD τ) ↦[m.view.set]{fullShare} f)) by
    iintro H1
    iexists m.view.read (Elt F) f
    iexists f
    isplitr [H1]
    · ipureintro; exact rfl
    · iexact H1)

variable {defs c P} {α β : Type}

theorem Safe.ret (a : α) : Safe defs c P (pure a) := by
  intro E K
  refine .trans ?_ (le_wp_ret _ _ _ _ _)
  iintro ⟨H1, HK⟩
  iapply HK
  iexact H1

theorem Safe.bind {p : Prog (TpuEff nD τ sig (Elt F) Λ .tc) α} {k : α → Prog (TpuEff nD τ sig (Elt F) Λ .tc) β}
    (h : Safe defs c P p) (hk : ∀ a, Safe defs c P (k a)) : Safe defs c P (p >>= k) := by
  intro E K
  rw [wp_bind]
  refine .trans ?_ (h E _)
  iintro ⟨H1, HK⟩
  isplitl [H1]; · iexact H1
  iintro %a H2
  iapply hk a E K
  isplitl [H2]; · iexact H2
  iexact HK

theorem Safe.load {s : Shape} {e : EltTy} {m : Memref sig .tc .vmem s e} (hm : Reads c P m) {ρ : LoadRect s}
    {hl : m.view.LoadsAt ρ} : Safe defs c P (Prog.lift (.load m ρ hl)) := by
  intro E K
  refine .trans (sep_mono hm.lend .rfl) ?_
  iintro ⟨⟨%X, H1, HP⟩, HK⟩
  ihave H1 := (show owns (c : Thread nD τ) m fullShare X ⊢ iprop(∃ f, ⌜m.view.read (Elt F) f = X⌝ ∗ (m.view.loc (c : Thread nD τ) ↦[m.view.set]{fullShare} f)) from .rfl) $$ H1
  icases H1 with ⟨%f, %hf, H1⟩
  iapply (wp_load Variants.none (c : Thread nD τ) none E (View.setOn_subset_set _ _)) $$ H1
  iintro H1
  iapply le_wp_ret
  iapply HK
  iapply HP
  iapply (show iprop(∃ f, ⌜m.view.read (Elt F) f = X⌝ ∗ (m.view.loc (c : Thread nD τ) ↦[m.view.set]{fullShare} f)) ⊢ owns (c : Thread nD τ) m fullShare X from .rfl)
  iexists f
  isplitr [H1]
  · ipureintro; exact hf
  · iexact H1

theorem Safe.store {s : Shape} {e : EltTy} {m : Memref sig .tc .vmem s e} (hm : Writes c P m) {ρ : Rect s}
    {w : ρ.shape.Idx → Elt F e} {hx : (m.access ρ).Stores Finset.univ}
    {h1 : Finset.univ = Finset.univ ∨ ∀ a, ρ.stride a = 1} :
    Safe defs c P (Prog.lift (.store m ρ w Finset.univ hx h1)) := by
  intro E K
  refine .trans (sep_mono hm.lend .rfl) ?_
  iintro ⟨⟨⟨%X, H1⟩, HP⟩, HK⟩
  ihave H1 := (show owns (c : Thread nD τ) m fullShare X ⊢ iprop(∃ f, ⌜m.view.read (Elt F) f = X⌝ ∗ (m.view.loc (c : Thread nD τ) ↦[m.view.set]{fullShare} f)) from .rfl) $$ H1
  icases H1 with ⟨%f, %hf, H1⟩
  iapply (show (m.view.loc (c : Thread nD τ) ↦[m.view.set]{fullShare} f) ⊢ _ from
    wp_store (hx := hx) (hm := h1) (m := m) Variants.none (c : Thread nD τ) none E (f := f) (S := m.view.set)
      (View.set_slice_subset _ _)) $$ H1
  iintro H1
  iapply le_wp_ret
  iapply HK
  iapply HP
  iapply (owns_some m _) $$ H1

/-- A load and what follows. -/
theorem Safe.load_then {s : Shape} {e : EltTy} {m : Memref sig .tc .vmem s e} (hm : Reads c P m) {ρ : LoadRect s}
    {hl : m.view.LoadsAt ρ} {k : (ρ.shape.Idx → Elt F e) → Prog (TpuEff nD τ sig (Elt F) Λ .tc) β} (hk : ∀ a, Safe defs c P (k a)) :
    Safe defs c P (Prog.lift (.load m ρ hl) >>= k) := (Safe.load hm).bind hk

/-- A store and what follows. -/
theorem Safe.store_then {s : Shape} {e : EltTy} {m : Memref sig .tc .vmem s e} (hm : Writes c P m) {ρ : Rect s}
    {w : ρ.shape.Idx → Elt F e} {hx : (m.access ρ).Stores Finset.univ}
    {h1 : Finset.univ = Finset.univ ∨ ∀ a, ρ.stride a = 1} {k : PUnit → Prog (TpuEff nD τ sig (Elt F) Λ .tc) β}
    (hk : ∀ a, Safe defs c P (k a)) :
    Safe defs c P (Prog.lift (.store m ρ w Finset.univ hx h1) >>= k) := (Safe.store hm).bind hk

/-- A load as a program's head. -/
theorem Safe.op_load {s : Shape} {e : EltTy} {m : Memref sig .tc .vmem s e} (hm : Reads c P m) {ρ : LoadRect s}
    {hl : m.view.LoadsAt ρ} {k : (ρ.shape.Idx → Elt F e) → Prog (TpuEff nD τ sig (Elt F) Λ .tc) β} (hk : ∀ a, Safe defs c P (k a)) :
    Safe defs c P (Prog.op (.load m ρ hl) k) := Safe.load_then hm hk

/-- A store as a program's head. -/
theorem Safe.op_store {s : Shape} {e : EltTy} {m : Memref sig .tc .vmem s e} (hm : Writes c P m) {ρ : Rect s}
    {w : ρ.shape.Idx → Elt F e} {hx : (m.access ρ).Stores Finset.univ}
    {h1 : Finset.univ = Finset.univ ∨ ∀ a, ρ.stride a = 1} {k : PUnit → Prog (TpuEff nD τ sig (Elt F) Λ .tc) β}
    (hk : ∀ a, Safe defs c P (k a)) :
    Safe defs c P (Prog.op (.store m ρ w Finset.univ hx h1) k) := Safe.store_then hm hk

/-- What follows a value. -/
theorem Safe.ret_then {a : α} {k : α → Prog (TpuEff nD τ sig (Elt F) Λ .tc) β} (h : Safe defs c P (k a)) :
    Safe defs c P (Prog.bind (Prog.ret a) k) := h

/-- A condition decides between safe programs. -/
theorem Safe.dite {q : Prop} [Decidable q] {p : q → Prog (TpuEff nD τ sig (Elt F) Λ .tc) α}
    {p' : ¬ q → Prog (TpuEff nD τ sig (Elt F) Λ .tc) α} (h : ∀ x, Safe defs c P (p x)) (h' : ∀ x, Safe defs c P (p' x)) :
    Safe defs c P (dite q p p') := by
  by_cases hq : q
  · rw [dif_pos hq]; exact h hq
  · rw [dif_neg hq]; exact h' hq

end

end Cert.Safe
-- ==== Proof.Mixer.Lend.lean ====
/-
  Which buffers an assertion lends. An assertion made of parts lends what any of its parts lends.
-/
module

public import proofs.«01_k».proof.Proof.Mixer.Safe

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}
variable {c : Dev nD} {P Q : sProp (Mod nD τ sig F)} {s : Shape} {e : EltTy} {m : Memref sig .tc .vmem s e}

/-- A buffer held at some contents is lent. -/
theorem Writes.self : Writes c (iprop(∃ X, owns (c : Thread nD τ) m fullShare X) : sProp (Mod nD τ sig F)) m := by
  refine ⟨?_⟩
  iintro H
  isplitl [H]; · iexact H
  iintro H
  iexact H

/-- What the left part lends, -/
theorem Writes.left (h : Writes c P m) : Writes c iprop(P ∗ Q) m := by
  refine ⟨.trans (sep_mono h.lend .rfl) ?_⟩
  iintro ⟨⟨H, HP⟩, HQ⟩
  isplitl [H]; · iexact H
  iintro H
  isplitl [H HP]
  · iapply HP; iexact H
  iexact HQ

/-- and what the right part lends, the whole lends. -/
theorem Writes.right (h : Writes c Q m) : Writes c iprop(P ∗ Q) m := by
  refine ⟨.trans (sep_mono .rfl h.lend) ?_⟩
  iintro ⟨HP, ⟨H, HQ⟩⟩
  isplitl [H]; · iexact H
  iintro H
  isplitl [HP]; · iexact HP
  iapply HQ; iexact H

/-- A family of parts lends what one of them lends. -/
theorem Writes.all {I : Type} [Fintype I] [DecidableEq I] {Φ : I → sProp (Mod nD τ sig F)} (i : I) (h : Writes c (Φ i) m) :
    Writes c (bigSep Finset.univ Φ) m := by
  rw [bigSep_erase (Finset.mem_univ i)]
  exact h.left

/-- A whole buffer of the core, held at some contents, is lent. -/
theorem Writes.whole (b : Ref sig .tc) (hb : Memref sig .tc .vmem s e) (h : (iprop(∃ f : Buf (Elt F) ((c : Thread nD τ).loc b),
      ((c : Thread nD τ).loc b) ↦{fullShare} f) : sProp (Mod nD τ sig F)) = iprop(∃ X, owns (c : Thread nD τ) hb fullShare X)) :
    Writes c (iprop(∃ f : Buf (Elt F) ((c : Thread nD τ).loc b), ((c : Thread nD τ).loc b) ↦{fullShare} f) : sProp (Mod nD τ sig F)) hb := by
  rw [h]; exact Writes.self

end Cert.Safe
-- ==== Proof.Mixer.RunIdeal.lean ====
/-
  The run of the idealized mixer's pipeline, from the body's safety: at a point the body is lent every staging buffer and every
  scratch buffer at some contents and gives them back at some contents, and of what it leaves nothing is said. So the run ends,
  with the arrays that are only read, and those no window stages, as they were.
-/
module

public import proofs.«01_k».proof.Proof.Mixer.Lend
public import proofs.«01_k».proof.Proof.Gen.KernelIdeal.Frame

@[expose] public section

set_option maxRecDepth 16384

noncomputable section

namespace Cert.Mixer.KernelIdeal

open Cert.Safe
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
variable (m : (ℓ : Loc nD τ sig) → Buf (Elt F) ℓ) (ρ : Dev nD → PrngReg)

/-- The proof data: the arrays as the region finds them; nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body holds at a point: the scratch buffers and the staging buffers, each at some contents. -/
def held (c : Dev nD) (t : Fin cfg0.N) : sProp (Mod nD τ sig F) :=
  iprop(Pipeline.ΦA spec0 c ∗ (rdat m c).owesAt () t.castSucc
    ∗ bigSep Finset.univ fun w : Fin cfg0.W => iprop(∃ X, owns (c : Thread nD τ) ((cfg0.win w).stage (cfg0.slots t w)) fullShare X))

/-- Each window's staging buffer is lent, -/
theorem lent0 (c : Dev nD) (t : Fin cfg0.N) : Writes c (held m c t) (win0_0.stage (cfg0.slots t 0)) :=
  Writes.right (Writes.right (Writes.all (0 : Fin cfg0.W) Writes.self))
theorem lent1 (c : Dev nD) (t : Fin cfg0.N) : Writes c (held m c t) (win0_1.stage (cfg0.slots t 1)) :=
  Writes.right (Writes.right (Writes.all (1 : Fin cfg0.W) Writes.self))
theorem lent2 (c : Dev nD) (t : Fin cfg0.N) : Writes c (held m c t) (win0_2.stage (cfg0.slots t 2)) :=
  Writes.right (Writes.right (Writes.all (2 : Fin cfg0.W) Writes.self))
theorem lent3 (c : Dev nD) (t : Fin cfg0.N) : Writes c (held m c t) (win0_3.stage (cfg0.slots t 3)) :=
  Writes.right (Writes.right (Writes.all (3 : Fin cfg0.W) Writes.self))
theorem lent4 (c : Dev nD) (t : Fin cfg0.N) : Writes c (held m c t) (win0_4.stage (cfg0.slots t 4)) :=
  Writes.right (Writes.right (Writes.all (4 : Fin cfg0.W) Writes.self))
theorem lent5 (c : Dev nD) (t : Fin cfg0.N) : Writes c (held m c t) (win0_5.stage (cfg0.slots t 5)) :=
  Writes.right (Writes.right (Writes.all (5 : Fin cfg0.W) Writes.self))
theorem lent6 (c : Dev nD) (t : Fin cfg0.N) : Writes c (held m c t) (win0_6.stage (cfg0.slots t 6)) :=
  Writes.right (Writes.right (Writes.all (6 : Fin cfg0.W) Writes.self))
theorem lent7 (c : Dev nD) (t : Fin cfg0.N) : Writes c (held m c t) (win0_7.stage (cfg0.slots t 7)) :=
  Writes.right (Writes.right (Writes.all (7 : Fin cfg0.W) Writes.self))
theorem lent8 (c : Dev nD) (t : Fin cfg0.N) : Writes c (held m c t) (win0_8.stage (cfg0.slots t 8)) :=
  Writes.right (Writes.right (Writes.all (8 : Fin cfg0.W) Writes.self))
theorem lent9 (c : Dev nD) (t : Fin cfg0.N) : Writes c (held m c t) (win0_9.stage (cfg0.slots t 9)) :=
  Writes.right (Writes.right (Writes.all (9 : Fin cfg0.W) Writes.self))
theorem lent10 (c : Dev nD) (t : Fin cfg0.N) : Writes c (held m c t) (win0_10.stage (cfg0.slots t 10)) :=
  Writes.right (Writes.right (Writes.all (10 : Fin cfg0.W) Writes.self))
theorem lent11 (c : Dev nD) (t : Fin cfg0.N) : Writes c (held m c t) (win0_11.stage (cfg0.slots t 11)) :=
  Writes.right (Writes.right (Writes.all (11 : Fin cfg0.W) Writes.self))
theorem lent12 (c : Dev nD) (t : Fin cfg0.N) : Writes c (held m c t) (win0_12.stage (cfg0.slots t 12)) :=
  Writes.right (Writes.right (Writes.all (12 : Fin cfg0.W) Writes.self))
theorem lent13 (c : Dev nD) (t : Fin cfg0.N) : Writes c (held m c t) (win0_13.stage (cfg0.slots t 13)) :=
  Writes.right (Writes.right (Writes.all (13 : Fin cfg0.W) Writes.self))
theorem lent14 (c : Dev nD) (t : Fin cfg0.N) : Writes c (held m c t) (win0_14.stage (cfg0.slots t 14)) :=
  Writes.right (Writes.right (Writes.all (14 : Fin cfg0.W) Writes.self))
theorem lent15 (c : Dev nD) (t : Fin cfg0.N) : Writes c (held m c t) (win0_15.stage (cfg0.slots t 15)) :=
  Writes.right (Writes.right (Writes.all (15 : Fin cfg0.W) Writes.self))
theorem lent16 (c : Dev nD) (t : Fin cfg0.N) : Writes c (held m c t) (win0_16.stage (cfg0.slots t 16)) :=
  Writes.right (Writes.right (Writes.all (16 : Fin cfg0.W) Writes.self))
theorem lent17 (c : Dev nD) (t : Fin cfg0.N) : Writes c (held m c t) (win0_17.stage (cfg0.slots t 17)) :=
  Writes.right (Writes.right (Writes.all (17 : Fin cfg0.W) Writes.self))
theorem lent18 (c : Dev nD) (t : Fin cfg0.N) : Writes c (held m c t) (win0_18.stage (cfg0.slots t 18)) :=
  Writes.right (Writes.right (Writes.all (18 : Fin cfg0.W) Writes.self))
theorem lent19 (c : Dev nD) (t : Fin cfg0.N) : Writes c (held m c t) (win0_19.stage (cfg0.slots t 19)) :=
  Writes.right (Writes.right (Writes.all (19 : Fin cfg0.W) Writes.self))

/-- The scratch buffers one by one. -/
theorem scratch_eq (c : Dev nD) :
    (Pipeline.ΦA spec0 c : sProp (Mod nD τ sig F))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- and each scratch buffer is. -/
theorem lent_scratch (c : Dev nD) (t : Fin cfg0.N) :
    Writes c (held m c t) (Memref.whole cc0_scratch0) ∧ Writes c (held m c t) (Memref.whole cc0_scratch1) ∧ Writes c (held m c t) (Memref.whole cc0_scratch2) ∧ Writes c (held m c t) (Memref.whole cc0_scratch3) ∧ Writes c (held m c t) (Memref.whole cc0_scratch4) ∧ Writes c (held m c t) (Memref.whole cc0_scratch5) ∧ Writes c (held m c t) (Memref.whole cc0_scratch6) ∧ Writes c (held m c t) (Memref.whole cc0_scratch7) := by
  unfold held
  rw [scratch_eq]
  refine ⟨?_, ?_, ?_, ?_, ?_, ?_, ?_, ?_⟩ <;> refine Writes.left (Writes.left ?_)
  · exact Writes.self.left
  · exact Writes.self.left.right
  · exact Writes.self.left.right.right
  · exact Writes.self.left.right.right.right
  · exact Writes.self.left.right.right.right.right
  · exact Writes.self.left.right.right.right.right.right
  · exact Writes.self.left.right.right.right.right.right.right
  · exact Writes.self.right.right.right.right.right.right.right

/-- Ownership at known contents is ownership at some. -/
theorem some_intro (c : Dev nD) {sp : Space} {s : Shape} {e : EltTy} (b : Memref sig .tc sp s e) (X : s.Idx → Elt F e) :
    (owns (c : Thread nD τ) b fullShare X : sProp (Mod nD τ sig F)) ⊢ iprop(∃ X, owns (c : Thread nD τ) b fullShare X) := by
  iintro H
  iexists X
  iexact H

/-- A condition that always holds may be added. -/
theorem some_true (c : Dev nD) {sp : Space} {s : Shape} {e : EltTy} (b : Memref sig .tc sp s e) :
    (iprop(∃ X, owns (c : Thread nD τ) b fullShare X) : sProp (Mod nD τ sig F))
      ⊢ iprop(∃ X, ⌜True⌝ ∗ owns (c : Thread nD τ) b fullShare X) := by
  iintro ⟨%X, H⟩
  iexists X
  isplitr [H]
  · ipureintro; exact trivial
  · iexact H

theorem defs₀_row (t : Fin cfg0.N) :
    defs₀ (F := F) .tc cfg0.body (cfg0.bodyArgs t (cfg0.slots t)) = bodyAt0 t := by
  unfold defs₀; rw [Defs.onTc_tc]

/-- The body's obligation, from its safety. -/
theorem obligation (h : ∀ c t, Safe (defs₀ (F := F)) c (held m c t) (bodyAt0 t)) (c : Dev nD) :
    (rdat m c).BodyObligation (defs₀ (F := F)) Variants.none () Set.univ := fun t Y _ => by
  rw [defs₀_row]
  refine .trans ?_ (h c t Set.univ _)
  have hin : (iprop((rdat m c).Φ t.castSucc ∗ (rdat m c).owesAt () t.castSucc
      ∗ bigSep Finset.univ fun w => owns (c : Thread nD τ) ((cfg0.win w).stage (cfg0.slots t w)) fullShare (Y w)) : sProp (Mod nD τ sig F))
      ⊢ held m c t :=
    sep_mono .rfl (sep_mono .rfl (bigSep_mono fun w _ => some_intro _ _ _))
  have hout : held m c t ⊢ (iprop((rdat m c).Φ t.succ ∗ (rdat m c).owesAt () t.succ
      ∗ bigSep Finset.univ fun w => iprop(∃ X, ⌜(rdat m c).after w t (Y w) X⌝
        ∗ owns (c : Thread nD τ) ((cfg0.win w).stage (cfg0.slots t w)) fullShare X)) : sProp (Mod nD τ sig F)) :=
    sep_mono .rfl (sep_mono .rfl (bigSep_mono fun w _ => some_true _ _))
  refine .trans hin ?_
  iintro H
  isplitl [H]; · iexact H
  iintro %a H
  iapply hout
  iexact H

set_option backward.isDefEq.respectTransparency.types false in
/-- The run, from the body's safety. -/
theorem run (h : ∀ c t, Safe (defs₀ (F := F)) c (held m c t) (bodyAt0 t)) :
    θ_run defs (onTc (τ := τ) (main (F := F))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := obligation m h) (hshare := fun c => (rdat m c).share_full fun _ => rfl)
    (howed := fun _ _ => rfl) (V := V m) (hmain := hmain m Variants.none) (hA := fun _ _ => rfl) (hΦ := fun _ _ => rfl)

set_option maxHeartbeats 1200000 in
/-- Every argument ends as it was, and every semaphore counter at zero. -/
theorem frame_of_safe (h : ∀ c t, Safe (defs₀ (F := F)) c (held m c t) (bodyAt0 t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ hh => by
    obtain ⟨h, hs⟩ := hh
    refine ⟨fun c => ?_, hs⟩
    exact ⟨(h.arr_in c 0 rfl).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (h.arr_in c 8 rfl).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      (h.arr_in c 15 rfl).trans (V_main_arg15 m c),
      (h.arr_in c 16 rfl).trans (V_main_arg16 m c)⟩) (run m ρ h)

end Cert.Mixer.KernelIdeal

end
-- ==== Proof.Mixer.BodyIdeal.lean ====
/-
  The mixer's printed body (over the ideal numbers) is safe: effect by effect, it loads from buffers that the assertion
  lends for reading and stores to buffers that it lends for writing.
-/
module

public import proofs.«01_k».proof.Proof.Mixer.Safe
public import proofs.«01_k».proof.KernelIdeal

@[expose] public section

set_option maxRecDepth 100000

noncomputable section

namespace Cert.Mixer.KernelIdeal

open Cert.Safe
open Idealize.ShloMosaic Idealize.ShloMosaic.TcCoe Idealize.SL Idealize.SL.RA Idealize.SL.BI Idealize.SL.Sem Cert.KernelIdeal

variable {F : FTy → Type} [FloatOps F] [Named F] [Facts]

set_option maxHeartbeats 0 in
theorem body_safe (c : Dev nD) (P : sProp (Cert.Safe.Mod nD τ sig F)) (defs : Defs nD τ sig (Elt F) Λ₀) (i : grid0.Coords)
    (arg2 : Memref sig .tc .vmem S1x512x1024 .f32) (harg2 : arg2.IsWhole)
    (arg3 : Memref sig .tc .vmem S1x3x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1024x4608 .bf16) (harg6 : arg6.IsWhole)
    (arg7 : Memref sig .tc .vmem S1x4608 .f32) (harg7 : arg7.IsWhole)
    (arg8 : Memref sig .tc .vmem S2x512x640 .f32) (harg8 : arg8.IsWhole)
    (arg9 : Memref sig .tc .vmem S512x1024 .bf16) (harg9 : arg9.IsWhole)
    (arg10 : Memref sig .tc .vmem S31x512 .f32) (harg10 : arg10.IsWhole)
    (arg11 : Memref sig .tc .vmem S1x512 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S1024x1024 .bf16) (harg16 : arg16.IsWhole)
    (arg17 : Memref sig .tc .vmem S32x5632 .f32) (harg17 : arg17.IsWhole)
    (arg18 : Memref sig .tc .vmem S176x1024 .f32) (harg18 : arg18.IsWhole)
    (arg19 : Memref sig .tc .vmem S1x512x1024 .f32) (harg19 : arg19.IsWhole)
    (arg20 : Memref sig .tc .vmem S32x5632 .bf16) (harg20 : arg20.IsWhole)
    (arg21 : Memref sig .tc .vmem S176x1024 .bf16) (harg21 : arg21.IsWhole)
    (arg22 : Memref sig .tc .vmem S512x1024 .bf16) (harg22 : arg22.IsWhole)
    (arg23 : Memref sig .tc .vmem S4x2x512x256 .bf16) (harg23 : arg23.IsWhole)
    (arg24 : Memref sig .tc .vmem S2x512x512 .bf16) (harg24 : arg24.IsWhole)
    (arg25 : Memref sig .tc .vmem S2x512x512 .bf16) (harg25 : arg25.IsWhole)
    (arg26 : Memref sig .tc .vmem S512x512 .bf16) (harg26 : arg26.IsWhole)
    (arg27 : Memref sig .tc .vmem S4x544x128 .f32) (harg27 : arg27.IsWhole)
    (arg28 : Memref sig .tc .vmem S512x512 .bf16) (harg28 : arg28.IsWhole)
    (arg29 : Memref sig .tc .vmem S2x512x1024 .f32) (harg29 : arg29.IsWhole)
    (r2 : Reads c P arg2) (r3 : Reads c P arg3) (r4 : Reads c P arg4) (r5 : Reads c P arg5) (r6 : Reads c P arg6)
    (r7 : Reads c P arg7) (r8 : Reads c P arg8) (r9 : Reads c P arg9) (r10 : Reads c P arg10) (r11 : Reads c P arg11)
    (r12 : Reads c P arg12) (r13 : Reads c P arg13) (r14 : Reads c P arg14) (r15 : Reads c P arg15)
    (r16 : Reads c P arg16) (r17 : Reads c P arg17) (r18 : Reads c P arg18) (w19 : Writes c P arg19)
    (w20 : Writes c P arg20) (w21 : Writes c P arg21) (w22 : Writes c P arg22) (w23 : Writes c P arg23)
    (w24 : Writes c P arg24) (w25 : Writes c P arg25) (w26 : Writes c P arg26) (w27 : Writes c P arg27)
    (w28 : Writes c P arg28) (w29 : Writes c P arg29) :
    Safe defs c P (cc0_mixer (F := F) i
      arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19
      arg20 harg20 arg21 harg21 arg22 harg22 arg23 harg23 arg24 harg24 arg25 harg25 arg26 harg26 arg27 harg27
      arg28 harg28 arg29 harg29) := by
  unfold cc0_mixer
  repeat' first
    | with_reducible refine Safe.load_then (by first | assumption | exact Writes.reads c P (by assumption)) (fun _ => ?_)
    | with_reducible refine Safe.store_then (by assumption) (fun _ => ?_)
    | with_reducible refine Safe.bind ?_ (fun _ => ?_)
    | with_reducible exact Safe.load (by first | assumption | exact Writes.reads c P (by assumption))
    | with_reducible exact Safe.store (by assumption)
    | with_reducible exact Safe.ret _
    | with_reducible refine Safe.dite (fun _ => ?_) (fun _ => ?_)
    | refine Safe.bind ?_ (fun _ => ?_)
    | with_reducible conv => arg 4; whnf

end Cert.Mixer.KernelIdeal
-- ==== Proof.Mixer.FrameIdeal.lean ====
/-
  The idealized mixer's frame: its run ends, with the arguments as they were and every semaphore counter at zero.
-/
module

public import proofs.«01_k».proof.Proof.Mixer.RunIdeal
public import proofs.«01_k».proof.Proof.Mixer.BodyIdeal

@[expose] public section

set_option maxRecDepth 16384

noncomputable section

namespace Cert.Mixer.KernelIdeal

open Cert.Safe
open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The body at a point is safe. -/
theorem point_safe (c : Dev nD) (t : Fin cfg0.N) : Safe (defs₀ (F := F)) c (held m c t) (bodyAt0 t) := by
  obtain ⟨s0, s1, s2, s3, s4, s5, s6, s7⟩ := lent_scratch m c t
  exact body_safe c (held m c t) defs₀ (grid0.coords t) _ _ _ _ _ _ _ _ _ _ _ _ _ _ _ _ _ _ _ _ _ _ _ _ _ _ _ _ _ _ _ _ _ _ _ _ _ _ _ _ _ _ _ _ _ _ _ _ _ _ _ _ _ _ _ _
    (lent0 m c t).reads (lent1 m c t).reads (lent2 m c t).reads (lent3 m c t).reads (lent4 m c t).reads (lent5 m c t).reads (lent6 m c t).reads (lent7 m c t).reads (lent8 m c t).reads (lent9 m c t).reads (lent10 m c t).reads (lent11 m c t).reads (lent12 m c t).reads (lent13 m c t).reads (lent14 m c t).reads (lent15 m c t).reads (lent16 m c t).reads
    (lent17 m c t) (lent18 m c t) (lent19 m c t) s0 s1 s2 s3 s4 s5 s6 s7

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  frame_of_safe m ρ (point_safe m)

end Cert.Mixer.KernelIdeal

end
-- ==== Proof.Heap.lean ====
/-
  Triples for a kernel body over a finite family of whole buffers. The family is a heap: every slot `k` has a memref
  `M k`, and the body's state is what each slot reads. `Triple` says that from a heap `H` a program runs and ends with a
  value and a heap that satisfy a plain predicate; its rules for return, bind, load and store mention no separation logic,
  so a body is proved as a program over vectors. `Triple.run` is the way back.
-/
module

public import Idealize.ShloMosaic.Lib.VecWindow
public import Idealize.ShloMosaic.Lib.Claim

@[expose] public section

noncomputable section

namespace Cert.Heap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

/-- The model that the propositions are over. -/
abbrev Mod (nD : Nat) (τ : Topo) (sig : RefSig) (F : FTy → Type) : Type := MT nD τ sig Unit (Elt F) ℕ (UR sig nD τ) ℕ

/-- What a view reads after an unmasked store through a unit-stride rectangle of it. -/
theorem read_write_unit {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) :
    v.read Val ((v.slice (Rect.unit off size inb)).write Val f w Finset.univ) = VecWindow.put (v.read Val f) off size w := by
  have h := View.read_writes_cons_put v f inb w [] rfl
  rw [View.writes_nil] at h
  exact h

section

variable {I : Type} [Fintype I] [DecidableEq I] {sh : I → Shape} {el : I → EltTy}
  (defs : Defs nD τ sig (Elt F) Λ) (c : Dev nD) (M : (k : I) → Memref sig .tc .vmem (sh k) (el k))

/-- Every slot is owned whole and reads what the heap says. -/
def ownsAll (H : (k : I) → Vec F (sh k) (el k)) : sProp (Mod nD τ sig F) :=
  bigSep Finset.univ fun k => owns (c : Thread nD τ) (M k) fullShare (H k)

/-- One slot apart from the others. -/
theorem ownsAll_split (H : (k : I) → Vec F (sh k) (el k)) (k : I) :
    ownsAll c M H = iprop(owns (c : Thread nD τ) (M k) fullShare (H k)
      ∗ bigSep (Finset.univ.erase k) fun k => owns (c : Thread nD τ) (M k) fullShare (H k)) :=
  bigSep_univ_split k

/-- A change at one slot leaves the others as they are. -/
theorem rest_update (H : (k : I) → Vec F (sh k) (el k)) (k : I) (X : Vec F (sh k) (el k)) :
    (bigSep (Finset.univ.erase k) fun k => owns (c : Thread nD τ) (M k) fullShare (H k) : sProp (Mod nD τ sig F))
      = bigSep (Finset.univ.erase k) fun i => owns (c : Thread nD τ) (M i) fullShare (Function.update H k X i) :=
  bigSep_congr fun i hi => by rw [Function.update_of_ne (Finset.ne_of_mem_erase hi)]

/-- Holding the elements of a slot's buffer is owning the slot at what it reads. -/
theorem owns_intro (k : I) (f : Buf (Elt F) ((M k).view.loc (c : Thread nD τ))) {X : Vec F (sh k) (el k)}
    (h : (M k).view.read (Elt F) f = X) :
    ((M k).view.loc (c : Thread nD τ) ↦[(M k).view.set]{fullShare} f : sProp (Mod nD τ sig F)) ⊢ owns (c : Thread nD τ) (M k) fullShare X :=
  (show _ ⊢ iprop(∃ f, ⌜(M k).view.read (Elt F) f = X⌝ ∗ ((M k).view.loc (c : Thread nD τ) ↦[(M k).view.set]{fullShare} f)) by
    iintro H1
    iexists f
    isplitr [H1]
    · ipureintro; exact h
    · iexact H1)

/-- From heap `H` the program ends with a value and a heap satisfying `Q`. -/
def Triple {α : Type} (H : (k : I) → Vec F (sh k) (el k)) (p : Prog (TpuEff nD τ sig (Elt F) Λ .tc) α)
    (Q : α → ((k : I) → Vec F (sh k) (el k)) → Prop) : Prop :=
  ∀ (E : Set ℕ) (K : α → sProp (Mod nD τ sig F)),
    iprop(ownsAll c M H ∗ (∀ a H', ⌜Q a H'⌝ -∗ ownsAll c M H' -∗ K a))
      ⊢ wp frame (wpE defs Variants.none (c : Thread nD τ) none) E p K

variable {defs c M} {α β : Type} {H : (k : I) → Vec F (sh k) (el k)}

theorem Triple.ret {a : α} {Q : α → ((k : I) → Vec F (sh k) (el k)) → Prop} (h : Q a H) :
    Triple defs c M H (pure a) Q := by
  intro E K
  refine .trans ?_ (le_wp_ret _ _ _ _ _)
  iintro ⟨H1, HK⟩
  iapply HK
  · ipureintro; exact h
  · iexact H1

theorem Triple.mono {p : Prog (TpuEff nD τ sig (Elt F) Λ .tc) α} {Q Q' : α → ((k : I) → Vec F (sh k) (el k)) → Prop}
    (h : Triple defs c M H p Q') (hQ : ∀ a H', Q' a H' → Q a H') : Triple defs c M H p Q := by
  intro E K
  refine .trans ?_ (h E K)
  iintro ⟨H1, HK⟩
  isplitl [H1]; · iexact H1
  iintro %a %H' %hq H2
  iapply HK
  · ipureintro; exact hQ _ _ hq
  · iexact H2

theorem Triple.bind {p : Prog (TpuEff nD τ sig (Elt F) Λ .tc) α} {k : α → Prog (TpuEff nD τ sig (Elt F) Λ .tc) β}
    {Q' : α → ((k : I) → Vec F (sh k) (el k)) → Prop} {Q : β → ((k : I) → Vec F (sh k) (el k)) → Prop}
    (h : Triple defs c M H p Q') (hk : ∀ a H', Q' a H' → Triple defs c M H' (k a) Q) : Triple defs c M H (p >>= k) Q := by
  intro E K
  rw [wp_bind]
  refine .trans ?_ (h E _)
  iintro ⟨H1, HK⟩
  isplitl [H1]; · iexact H1
  iintro %a %H' %hq H2
  iapply hk a H' hq E K
  isplitl [H2]; · iexact H2
  iexact HK

theorem Triple.load (k : I) {off size : Fin (sh k).rank → ℕ} (inb : ∀ a, off a + size a ≤ (sh k).size a)
    {hl : (M k).view.LoadsAt (Rect.unit off size inb).toLoadRect}
    {Q : ((Rect.unit off size inb).toLoadRect.shape.Idx → Elt F (el k)) → ((k : I) → Vec F (sh k) (el k)) → Prop}
    (h : Q (VecWindow.window (H k) off size inb) H) :
    Triple defs c M H (Prog.lift (.load (M k) (Rect.unit off size inb).toLoadRect hl)) Q := by
  intro E K
  rw [ownsAll_split c M H k, show owns (c : Thread nD τ) (M k) fullShare (H k)
    = iprop(∃ f, ⌜(M k).view.read (Elt F) f = H k⌝ ∗ ((M k).view.loc (c : Thread nD τ) ↦[(M k).view.set]{fullShare} f)) from rfl]
  iintro ⟨⟨⟨%f, %hf, H1⟩, H2⟩, HK⟩
  iapply (wp_load Variants.none (c : Thread nD τ) none E (View.setOn_subset_set _ _)) $$ H1
  iintro H1
  rw [View.readAt_unit (M k).view f inb rfl inb, hf]
  iapply le_wp_ret
  iapply HK
  · ipureintro; exact h
  · iapply (Entails.of_eq (ownsAll_split c M _ k).symm)
    isplitl [H1]
    · iapply (owns_intro c M k f hf) $$ H1
    · iexact H2

theorem Triple.store (k : I) {off size : Fin (sh k).rank → ℕ} (inb : ∀ a, off a + size a ≤ (sh k).size a)
    {w : (Rect.unit off size inb).shape.Idx → Elt F (el k)}
    {hx : ((M k).access (Rect.unit off size inb)).Stores Finset.univ}
    {hm : Finset.univ = Finset.univ ∨ ∀ a, (Rect.unit off size inb).stride a = 1}
    {Q : PUnit → ((k : I) → Vec F (sh k) (el k)) → Prop}
    (h : Q ⟨⟩ (Function.update H k (VecWindow.put (H k) off size w))) :
    Triple defs c M H (Prog.lift (.store (M k) (Rect.unit off size inb) w Finset.univ hx hm)) Q := by
  intro E K
  rw [ownsAll_split c M H k, show owns (c : Thread nD τ) (M k) fullShare (H k)
    = iprop(∃ f, ⌜(M k).view.read (Elt F) f = H k⌝ ∗ ((M k).view.loc (c : Thread nD τ) ↦[(M k).view.set]{fullShare} f)) from rfl]
  iintro ⟨⟨⟨%f, %hf, H1⟩, H2⟩, HK⟩
  iapply (show ((M k).view.loc (c : Thread nD τ) ↦[(M k).view.set]{fullShare} f) ⊢ _ from
    wp_store (hx := hx) (hm := hm) (m := M k) Variants.none (c : Thread nD τ) none E (f := f) (S := (M k).view.set)
      (View.set_slice_subset _ _)) $$ H1
  iintro H1
  iapply le_wp_ret
  iapply HK
  · ipureintro; exact h
  · iapply (Entails.of_eq (ownsAll_split c M _ k).symm)
    isplitl [H1]
    · iapply (owns_intro c M k _ (by
        rw [Function.update_self, ← hf]
        exact read_write_unit (M k).view f inb w)) $$ H1
    · iapply (Entails.of_eq (rest_update c M H k _)) $$ H2

/-- A finished triple, used in the logic. -/
theorem Triple.run {p : Prog (TpuEff nD τ sig (Elt F) Λ .tc) α} {Q : α → ((k : I) → Vec F (sh k) (el k)) → Prop}
    (h : Triple defs c M H p Q) (E : Set ℕ) (K : α → sProp (Mod nD τ sig F)) :
    iprop(ownsAll c M H ∗ (∀ a H', ⌜Q a H'⌝ -∗ ownsAll c M H' -∗ K a))
      ⊢ wp frame (wpE defs Variants.none (c : Thread nD τ) none) E p K := h E K

end

end Cert.Heap
-- ==== Proof.Ffn.Program.lean ====
/-
  The feed-forward kernel's body as a program with parameters: one slab of the convolution, one group of 256
  activation columns over a range of rows, one range of the modulated rows and one range of the result's rows are each
  written once, and the body runs them over their ranges. The buffers are the slots of a heap (`Slot`).
-/
module

public import proofs.«01_k».proof.Proof.Heap
public import Idealize.ShloMosaic.PureOps

@[expose] public section

noncomputable section

namespace Cert.Ffn

open Idealize.ShloMosaic Idealize.SL.Sem

/-- A matrix shape. -/
abbrev sh2 (a b : ℕ) : Shape := ⟨2, ![a, b]⟩
/-- A shape of three axes. -/
abbrev sh3 (a b c : ℕ) : Shape := ⟨3, ![a, b, c]⟩
/-- A vector shape. -/
abbrev sh1 (a : ℕ) : Shape := ⟨1, ![a]⟩

/-- The kernel's buffers: the block of rows, the modulation, the two norm gains, the up projection, the taps and their
bias, the down projection, the result's block, and the scratch: modulated rows, activations, convolution windows, and
the last rows of the block before (read, and written for the next one). -/
inductive Slot
  | x | md | gpre | gpost | wup | wdw | bdw | wdn | out | h | act | win | hold | hnew
  deriving DecidableEq

instance : Fintype Slot :=
  ⟨{.x, .md, .gpre, .gpost, .wup, .wdw, .bdw, .wdn, .out, .h, .act, .win, .hold, .hnew}, by intro k; cases k <;> decide⟩

/-- The slots' shapes. -/
@[reducible] def sh : Slot → Shape
  | .x => sh3 1 1024 1024 | .md => sh3 1 3 1024 | .gpre => sh2 1 1024 | .gpost => sh2 1 1024
  | .wup => sh2 1024 5632 | .wdw => sh2 3 5632 | .bdw => sh2 1 5632 | .wdn => sh2 2816 1024
  | .out => sh3 1 1024 1024 | .h => sh2 1024 1024 | .act => sh2 1024 2816 | .win => sh3 8 1032 128
  | .hold => sh3 44 8 128 | .hnew => sh3 44 8 128

/-- The slots' element types. -/
@[reducible] def el : Slot → EltTy
  | .wup => .bf16 | .wdn => .bf16 | .h => .bf16 | .act => .bf16
  | .x => .f32 | .md => .f32 | .gpre => .f32 | .gpost => .f32 | .wdw => .f32 | .bdw => .f32 | .out => .f32
  | .win => .f32 | .hold => .f32 | .hnew => .f32

theorem inb2 {o0 o1 s0 s1 d0 d1 : ℕ} (h0 : o0 + s0 ≤ d0) (h1 : o1 + s1 ≤ d1) :
    ∀ a, (![o0, o1] : Fin 2 → ℕ) a + (![s0, s1] : Fin 2 → ℕ) a ≤ (sh2 d0 d1).size a :=
  Fin.forall_fin_two.mpr ⟨h0, h1⟩

theorem inb3 {o0 o1 o2 s0 s1 s2 d0 d1 d2 : ℕ} (h0 : o0 + s0 ≤ d0) (h1 : o1 + s1 ≤ d1) (h2 : o2 + s2 ≤ d2) :
    ∀ a, (![o0, o1, o2] : Fin 3 → ℕ) a + (![s0, s1, s2] : Fin 3 → ℕ) a ≤ (sh3 d0 d1 d2).size a := by
  intro a; fin_cases a
  · exact h0
  · exact h1
  · exact h2

theorem pos2 {a b : ℕ} (ha : 0 < a) (hb : 0 < b) : 0 < (sh2 a b).numel :=
  Shape.numel_pos (Fin.forall_fin_two.mpr ⟨ha, hb⟩)

theorem pos3 {a b c : ℕ} (ha : 0 < a) (hb : 0 < b) (hc : 0 < c) : 0 < (sh3 a b c).numel :=
  Shape.numel_pos (by intro i; fin_cases i; exacts [ha, hb, hc])

theorem num1 (a : ℕ) : (sh1 a).numel = a := by simp [Shape.numel]
theorem num2 (a b : ℕ) : (sh2 a b).numel = a * b := by simp [Shape.numel, Fin.prod_univ_two]
theorem num3 (a b c : ℕ) : (sh3 a b c).numel = a * b * c := by simp [Shape.numel, Fin.prod_univ_three]

theorem cast32 (b c : ℕ) : (sh3 1 b c).ShapeCasts (sh2 b c) := by
  show (sh2 b c).numel = (sh3 1 b c).numel
  rw [num2, num3, Nat.one_mul]
theorem cast23 (b c : ℕ) : (sh2 b c).ShapeCasts (sh3 1 b c) := (cast32 b c).symm
theorem cast12 (b : ℕ) : (sh1 b).ShapeCasts (sh2 b 1) := by
  show (sh2 b 1).numel = (sh1 b).numel
  rw [num2, num1, Nat.mul_one]

theorem bcRow (n c : ℕ) : (sh2 1 c).Broadcasts (sh2 n c) :=
  ⟨le_rfl, by intro a; fin_cases a; exacts [.inl rfl, .inr fun _ => rfl]⟩
theorem bcCol (n c : ℕ) : (sh2 n 1).Broadcasts (sh2 n c) :=
  ⟨le_rfl, by intro a; fin_cases a; exacts [.inr fun _ => rfl, .inl rfl]⟩

theorem slices2 {o0 o1 s0 s1 d0 d1 : ℕ} (h0 : o0 + s0 ≤ d0) (h1 : o1 + s1 ≤ d1) :
    (sh2 d0 d1).Slices (![o0, o1] : Fin 2 → ℕ) (sh2 s0 s1) := ⟨rfl, Fin.forall_fin_two.mpr ⟨h0, h1⟩⟩

theorem redRow (n c : ℕ) : (sh2 n c).Reduces [1] (sh1 n) := ⟨rfl, Nat.one_pos, by intro b; fin_cases b; rfl⟩

theorem catCols (n : ℕ) : Shape.Concatenates [sh2 n 128, sh2 n 128] (sh2 n 256) (1 : Fin 2) := by
  refine ⟨le_rfl, ?_, rfl⟩
  intro s hs
  have : s = sh2 n 128 := by simpa using hs
  subst this
  refine ⟨rfl, fun b hb => ?_⟩
  fin_cases b
  · rfl
  · exact absurd rfl hb

/-- A range of packed rows: whole words. -/
theorem packed2 {o0 o1 s0 s1 d0 d1 : ℕ} (inb : ∀ a, (![o0, o1] : Fin 2 → ℕ) a + (![s0, s1] : Fin 2 → ℕ) a ≤ (sh2 d0 d1).size a)
    (h0 : 2 ∣ o0) (h1 : 2 ∣ s0) :
    (Rect.unit (s := sh2 d0 d1) ![o0, o1] ![s0, s1] inb).PackedRows (EltTy.packing .bf16) :=
  .inr ⟨le_rfl, rfl, .inl ⟨h0, h1⟩⟩

variable {nD : Nat} {τ : Topo} {sig : RefSig} {F : FTy → Type} [FloatOps F] {Λ : Labels}

/-- A program on a TensorCore. -/
abbrev TProg (nD : Nat) (τ : Topo) (sig : RefSig) (F : FTy → Type) (Λ : Labels) : Type → Type _ :=
  Prog (TpuEff nD τ sig (Elt F) Λ .tc)

/-- `x · rsqrt(mean x² + ε)` along the rows of a range, as the kernel computes it. -/
def rmsCore (n : ℕ) (v : FVec F (sh2 n 1024) .f32) : FVec F (sh2 n 1024) .f32 :=
  mulf v (broadcastTo (sh2 n 1024) (rsqrt (addf (divf (shapeCast (sh2 n 1)
    (multiReduction .add [1] (sh1 n) (mulf v v) 0x00000000#32 (redRow n 1024) (.inl rfl) rfl) (cast12 n))
    (broadcast (sh2 n 1) (Scalar.ofBits .f32 0x44800000#32))) (broadcast (sh2 n 1) (Scalar.ofBits .f32 0x358637BD#32))))
    (bcCol n 1024))

/-- The modulated rows of a range. -/
def hVal (n : ℕ) (shift scale : FVec F (sh2 1 1024) .f32) (g : FVec F (sh2 1 1024) .f32) (xs : FVec F (sh3 1 n 1024) .f32) :
    FVec F (sh2 n 1024) .bf16 :=
  truncf .bf16 (addf (mulf (mulf (rmsCore n (shapeCast (sh2 n 1024) xs (cast32 n 1024)))
    (broadcastTo (sh2 n 1024) (shapeCast (sh2 1 1024) g rfl) (bcRow n 1024)))
    (broadcastTo (sh2 n 1024) (addf (broadcast (sh2 1 1024) (Scalar.ofBits .f32 0x3F800000#32)) scale) (bcRow n 1024)))
    (broadcastTo (sh2 n 1024) shift (bcRow n 1024))) (by decide)

/-- The up projection of a range, 256 columns. -/
def upVal (n : ℕ) (hs : FVec F (sh2 n 1024) .bf16) (w : FVec F (sh2 1024 256) .bf16) : FVec F (sh2 n 256) .f32 :=
  matmul (DotDims.plain n 1024 256) none hs w (constant (sh2 n 256) .f32 0x00000000#32)

/-- A tap's product added. -/
def tap (n : ℕ) (y : FVec F (sh2 n 128) .f32) (w : FVec F (sh2 1 128) .f32) (v : FVec F (sh3 1 n 128) .f32) :
    FVec F (sh2 n 128) .f32 :=
  addf y (mulf (broadcastTo (sh2 n 128) w (bcRow n 128)) (shapeCast (sh2 n 128) v (cast32 n 128)))

/-- The bias and the newest tap. -/
def tap2 (n : ℕ) (b w : FVec F (sh2 1 128) .f32) (u : FVec F (sh2 n 128) .f32) : FVec F (sh2 n 128) .f32 :=
  addf (broadcastTo (sh2 n 128) (shapeCast (sh2 1 128) b rfl) (bcRow n 128))
    (mulf (broadcastTo (sh2 n 128) w (bcRow n 128)) u)

/-- `gelu(g) · v`, rounded. -/
def actVal (n : ℕ) (v g : FVec F (sh2 n 256) .f32) : FVec F (sh2 n 256) .bf16 :=
  truncf .bf16 (mulf (mulf g (mulf (broadcast (sh2 n 256) (Scalar.ofBits .f32 0x3F000000#32))
    (addf (broadcast (sh2 n 256) (Scalar.ofBits .f32 0x3F800000#32))
      (tanh (mulf (broadcast (sh2 n 256) (Scalar.ofBits .f32 0x3F4C422A#32))
        (addf g (mulf (broadcast (sh2 n 256) (Scalar.ofBits .f32 0x3D372713#32)) (mulf g (mulf g g))))))))) v) (by decide)

/-- The result's rows of a range. -/
def outVal (gate : FVec F (sh2 1 1024) .f32) (a : FVec F (sh2 256 2816) .bf16) (w : FVec F (sh2 2816 1024) .bf16)
    (xs : FVec F (sh3 1 256 1024) .f32) (g : FVec F (sh2 1 1024) .f32) : FVec F (sh2 256 1024) .f32 :=
  addf (shapeCast (sh2 256 1024) xs (cast32 256 1024)) (mulf (broadcastTo (sh2 256 1024) gate (bcRow 256 1024))
    (mulf (rmsCore 256 (matmul (DotDims.plain 256 2816 1024) none a w (constant (sh2 256 1024) .f32 0x00000000#32)))
      (broadcastTo (sh2 256 1024) (shapeCast (sh2 1 1024) g rfl) (bcRow 256 1024))))

section

variable (M : (k : Slot) → Memref sig .tc .vmem (sh k) (el k)) (hM : ∀ k, (M k).IsWhole)

/-- A load of a rectangle of a slot. -/
abbrev ld (k : Slot) (off size : Fin (sh k).rank → ℕ) (inb : ∀ a, off a + size a ≤ (sh k).size a)
    (h : 0 < (Rect.unit (s := sh k) off size inb).toLoadRect.shape.numel) :
    TProg nD τ sig F Λ ((Rect.unit (s := sh k) off size inb).toLoadRect.shape.Idx → Elt F (el k)) :=
  Prog.lift (.load (M k) (Rect.unit (s := sh k) off size inb).toLoadRect (View.loadsAt_vmem h))

/-- A store to a rectangle of a slot of 32-bit elements. -/
abbrev st (k : Slot) (off size : Fin (sh k).rank → ℕ) (inb : ∀ a, off a + size a ≤ (sh k).size a)
    (h : 0 < (Rect.unit (s := sh k) off size inb).shape.numel) (he : (el k).bits = 32)
    (w : (Rect.unit (s := sh k) off size inb).shape.Idx → Elt F (el k)) : TProg nD τ sig F Λ PUnit :=
  Prog.lift (.store (M k) (Rect.unit (s := sh k) off size inb) w Finset.univ (View.stores_vmem_bits_univ h he) (.inl rfl))

/-- A store to a rectangle of whole words of a slot. -/
abbrev stp (k : Slot) (off size : Fin (sh k).rank → ℕ) (inb : ∀ a, off a + size a ≤ (sh k).size a)
    (h : 0 < (Rect.unit (s := sh k) off size inb).shape.numel)
    (hp : (Rect.unit (s := sh k) off size inb).PackedRows (el k).packing)
    (w : (Rect.unit (s := sh k) off size inb).shape.Idx → Elt F (el k)) : TProg nD τ sig F Λ PUnit :=
  Prog.lift (.store (M k) (Rect.unit (s := sh k) off size inb) w Finset.univ
    (View.stores_vmem h ((hM k).storeExact_slice rfl _ hp) (fun _ => rfl)) (.inl rfl))

/-- The range of rows `[r0, r0 + n)` is in the block, in whole words, and at least eight long. -/
structure Rows (n r0 : ℕ) : Prop where
  le : r0 + n ≤ 1024
  eight : 8 ≤ n
  evenR : 2 ∣ r0
  evenN : 2 ∣ n

/-- The part of the convolution's window that lies before the block, taken from the rows kept. -/
def slabOld (w k : ℕ) (hw : w < 8) (hk : k < 44) : TProg nD τ sig F Λ PUnit := do
  let o ← ld M .hold ![k, 0, 0] ![1, 8, 128] (inb3 hk (by omega) (by omega)) (pos3 (by omega) (by omega) (by omega))
  let _ ← ld M .win ![w, 0, 0] ![1, 8, 128] (inb3 hw (by omega) (by omega)) (pos3 (by omega) (by omega) (by omega))
  st M .win ![w, 0, 0] ![1, 8, 128] (inb3 hw (by omega) (by omega)) (pos3 (by omega) (by omega) (by omega)) rfl
    (shapeCast (sh3 1 8 128) (shapeCast (sh2 8 128) o (cast32 8 128)) (cast23 8 128))

/-- The rows of the range put in the window. -/
def slabPut (n r0 w : ℕ) (hr : Rows n r0) (hw : w < 8) (u : FVec F (sh2 n 128) .f32) : TProg nD τ sig F Λ PUnit := do
  let _ ← ld M .win ![w, 8 + r0, 0] ![1, n, 128] (inb3 hw (by have := hr.le; omega) (by omega))
    (pos3 (by omega) (by have := hr.eight; omega) (by omega))
  st M .win ![w, 8 + r0, 0] ![1, n, 128] (inb3 hw (by have := hr.le; omega) (by omega))
    (pos3 (by omega) (by have := hr.eight; omega) (by omega)) rfl (shapeCast (sh3 1 n 128) u (cast23 n 128))

/-- The last eight rows of the block kept for the next one. -/
def slabKeep (n k : ℕ) (hn : 8 ≤ n) (hk : k < 44) (u : FVec F (sh2 n 128) .f32) : TProg nD τ sig F Λ PUnit := do
  let _ ← ld M .hnew ![k, 0, 0] ![1, 8, 128] (inb3 hk (by omega) (by omega)) (pos3 (by omega) (by omega) (by omega))
  st M .hnew ![k, 0, 0] ![1, 8, 128] (inb3 hk (by omega) (by omega)) (pos3 (by omega) (by omega) (by omega)) rfl
    (shapeCast (sh3 1 8 128) (extractStridedSlice (sh2 8 128) ![n - 8, 0] u (slices2 (by omega) (by omega))) (cast23 8 128))

/-- The taps of one slab. -/
def slabTaps (n r0 w k : ℕ) (hr : Rows n r0) (hw : w < 8) (hk : k < 44) (u : FVec F (sh2 n 128) .f32) :
    TProg nD τ sig F Λ (FVec F (sh2 n 128) .f32) := do
  let b ← ld M .bdw ![0, 128 * k] ![1, 128] (inb2 (by omega) (by omega)) (pos2 (by omega) (by omega))
  let w2 ← ld M .wdw ![2, 128 * k] ![1, 128] (inb2 (by omega) (by omega)) (pos2 (by omega) (by omega))
  let w0 ← ld M .wdw ![0, 128 * k] ![1, 128] (inb2 (by omega) (by omega)) (pos2 (by omega) (by omega))
  let v0 ← ld M .win ![w, 6 + r0, 0] ![1, n, 128] (inb3 hw (by have := hr.le; omega) (by omega))
    (pos3 (by omega) (by have := hr.eight; omega) (by omega))
  let w1 ← ld M .wdw ![1, 128 * k] ![1, 128] (inb2 (by omega) (by omega)) (pos2 (by omega) (by omega))
  let v1 ← ld M .win ![w, 7 + r0, 0] ![1, n, 128] (inb3 hw (by have := hr.le; omega) (by omega))
    (pos3 (by omega) (by have := hr.eight; omega) (by omega))
  pure (tap n (tap n (tap2 n b w2 u) w0 v0) w1 v1)

/-- One slab of 128 columns over a range: `fst` at the block's first rows, `lst` at its last ones. -/
def slab (fst lst : Bool) (n r0 w k : ℕ) (hr : Rows n r0) (hw : w < 8) (hk : k < 44) (u : FVec F (sh2 n 128) .f32) :
    TProg nD τ sig F Λ (FVec F (sh2 n 128) .f32) := do
  bif fst then slabOld M w k hw hk else pure ⟨⟩
  slabPut M n r0 w hr hw u
  bif lst then slabKeep M n k hr.eight hk u else pure ⟨⟩
  slabTaps M n r0 w k hr hw hk u

/-- 256 columns of the projection and its convolution over a range. -/
def conv (fst lst : Bool) (n r0 w q : ℕ) (hr : Rows n r0) (hw : w + 1 < 8) (hq : q < 22) : TProg nD τ sig F Λ (FVec F (sh2 n 256) .f32) := do
  let hs ← ld M .h ![r0, 0] ![n, 1024] (inb2 hr.le (by omega)) (pos2 (by have := hr.eight; omega) (by omega))
  let wu ← ld M .wup ![0, 256 * q] ![1024, 256] (inb2 (by omega) (by omega)) (pos2 (by omega) (by omega))
  let y0 ← slab M fst lst n r0 w (2 * q) hr (by omega) (by omega)
    (extractStridedSlice (sh2 n 128) ![0, 0] (upVal n hs wu) (slices2 (by omega) (by omega)))
  let y1 ← slab M fst lst n r0 (w + 1) (2 * q + 1) hr hw (by omega)
    (extractStridedSlice (sh2 n 128) ![0, 128] (upVal n hs wu) (slices2 (by omega) (by omega)))
  pure (concatenate (sh2 n 256) 1 [⟨sh2 n 128, y0⟩, ⟨sh2 n 128, y1⟩] (catCols n))

/-- 256 columns of the activations over a range. -/
def actCols (fst lst : Bool) (n r0 w c : ℕ) (hr : Rows n r0) (hw : w + 3 < 8) (hc : c < 11) : TProg nD τ sig F Λ PUnit := do
  let v ← conv M fst lst n r0 w c hr (by omega) (by omega)
  let g ← conv M fst lst n r0 (w + 2) (11 + c) hr (by omega) (by omega)
  let _ ← ld M .act ![r0, 256 * c] ![n, 256] (inb2 hr.le (by omega)) (pos2 (by have := hr.eight; omega) (by omega))
  stp M hM .act ![r0, 256 * c] ![n, 256] (inb2 hr.le (by omega)) (pos2 (by have := hr.eight; omega) (by omega))
    (packed2 _ hr.evenR hr.evenN) (shapeCast (sh2 n 256) (actVal n v g) rfl)

/-- The modulated rows of a range. -/
def hRows (r0 : ℕ) (hr : Rows 256 r0) (shift scale : FVec F (sh2 1 1024) .f32) : TProg nD τ sig F Λ PUnit := do
  let xs ← ld M .x ![0, r0, 0] ![1, 256, 1024] (inb3 (by omega) hr.le (by omega)) (pos3 (by omega) (by omega) (by omega))
  let g ← ld M .gpre ![0, 0] ![1, 1024] (inb2 (by omega) (by omega)) (pos2 (by omega) (by omega))
  let _ ← ld M .h ![r0, 0] ![256, 1024] (inb2 hr.le (by omega)) (pos2 (by omega) (by omega))
  stp M hM .h ![r0, 0] ![256, 1024] (inb2 hr.le (by omega)) (pos2 (by omega) (by omega))
    (packed2 _ hr.evenR hr.evenN) (shapeCast (sh2 256 1024) (hVal 256 shift scale g xs) rfl)

/-- The result's rows of a range. -/
def outRows (r0 : ℕ) (hr : Rows 256 r0) (gate : FVec F (sh2 1 1024) .f32) : TProg nD τ sig F Λ PUnit := do
  let a ← ld M .act ![r0, 0] ![256, 2816] (inb2 hr.le (by omega)) (pos2 (by omega) (by omega))
  let w ← ld M .wdn ![0, 0] ![2816, 1024] (inb2 (by omega) (by omega)) (pos2 (by omega) (by omega))
  let xs ← ld M .x ![0, r0, 0] ![1, 256, 1024] (inb3 (by omega) hr.le (by omega)) (pos3 (by omega) (by omega) (by omega))
  let g ← ld M .gpost ![0, 0] ![1, 1024] (inb2 (by omega) (by omega)) (pos2 (by omega) (by omega))
  let _ ← ld M .out ![0, r0, 0] ![1, 256, 1024] (inb3 (by omega) hr.le (by omega)) (pos3 (by omega) (by omega) (by omega))
  st M .out ![0, r0, 0] ![1, 256, 1024] (inb3 (by omega) hr.le (by omega)) (pos3 (by omega) (by omega) (by omega)) rfl
    (shapeCast (sh3 1 256 1024) (outVal gate a w xs g) (cast23 256 1024))

/-- The rows before the block: zero at a sequence's first block, the ones kept after that. -/
def start (s : ℕ) : TProg nD τ sig F Λ PUnit := do
  if _h : Scalar.cmpi .ne ((Scalar.extui (Scalar.cmpi .eq (BitVec.ofNat 32 s) 0#32)) : BitVec 32) 0#32 = 1#1 then do
    let _ ← ld M .hold ![0, 0, 0] ![44, 8, 128] (inb3 (by omega) (by omega) (by omega)) (pos3 (by omega) (by omega) (by omega))
    st M .hold ![0, 0, 0] ![44, 8, 128] (inb3 (by omega) (by omega) (by omega)) (pos3 (by omega) (by omega) (by omega)) rfl
      (shapeCast (sh3 44 8 128) (broadcast (sh3 44 8 128) (Scalar.ofBits .f32 0x00000000#32)) rfl)
    pure ⟨⟩
  else do
    pure ⟨⟩
  if _h : Scalar.cmpi .ne ((Scalar.extui (Scalar.cmpi .sgt (BitVec.ofNat 32 s) 0#32)) : BitVec 32) 0#32 = 1#1 then do
    let o ← ld M .hnew ![0, 0, 0] ![44, 8, 128] (inb3 (by omega) (by omega) (by omega)) (pos3 (by omega) (by omega) (by omega))
    let _ ← ld M .hold ![0, 0, 0] ![44, 8, 128] (inb3 (by omega) (by omega) (by omega)) (pos3 (by omega) (by omega) (by omega))
    st M .hold ![0, 0, 0] ![44, 8, 128] (inb3 (by omega) (by omega) (by omega)) (pos3 (by omega) (by omega) (by omega)) rfl
      (shapeCast (sh3 44 8 128) o rfl)
    pure ⟨⟩
  else do
    pure ⟨⟩

/-- A row of the modulation. -/
def mdRow (i : ℕ) (hi : i < 3) : TProg nD τ sig F Λ (FVec F (sh2 1 1024) .f32) := do
  let v ← ld M .md ![0, i, 0] ![1, 1, 1024] (inb3 (by omega) hi (by omega)) (pos3 (by omega) (by omega) (by omega))
  pure (shapeCast (sh2 1 1024) v (cast32 1 1024))

theorem rows256 {r0 : ℕ} (h : r0 + 256 ≤ 1024) (h2 : 2 ∣ r0) : Rows 256 r0 := ⟨h, by omega, h2, by omega⟩
theorem rowsAll : Rows 1024 0 := ⟨by omega, by omega, by omega, by omega⟩

/-- The whole body at the point whose second coordinate is `s`. -/
def body (s : ℕ) : TProg nD τ sig F Λ PUnit := do
  start M s
  let shift ← mdRow M 0 (by omega)
  let scale ← mdRow M 1 (by omega)
  let gate ← mdRow M 2 (by omega)
  hRows M hM 0 (rows256 (by omega) (by omega)) shift scale
  actCols M hM true false 256 0 0 0 (rows256 (by omega) (by omega)) (by omega) (by omega)
  hRows M hM 256 (rows256 (by omega) (by omega)) shift scale
  actCols M hM false false 256 256 0 0 (rows256 (by omega) (by omega)) (by omega) (by omega)
  hRows M hM 512 (rows256 (by omega) (by omega)) shift scale
  actCols M hM false false 256 512 0 0 (rows256 (by omega) (by omega)) (by omega) (by omega)
  hRows M hM 768 (rows256 (by omega) (by omega)) shift scale
  actCols M hM false true 256 768 0 0 (rows256 (by omega) (by omega)) (by omega) (by omega)
  actCols M hM true true 1024 0 4 1 rowsAll (by omega) (by omega)
  actCols M hM true true 1024 0 0 2 rowsAll (by omega) (by omega)
  actCols M hM true true 1024 0 4 3 rowsAll (by omega) (by omega)
  actCols M hM true true 1024 0 0 4 rowsAll (by omega) (by omega)
  actCols M hM true true 1024 0 4 5 rowsAll (by omega) (by omega)
  actCols M hM true true 1024 0 0 6 rowsAll (by omega) (by omega)
  actCols M hM true true 1024 0 4 7 rowsAll (by omega) (by omega)
  actCols M hM true true 1024 0 0 8 rowsAll (by omega) (by omega)
  actCols M hM true true 1024 0 4 9 rowsAll (by omega) (by omega)
  actCols M hM true true 1024 0 0 10 rowsAll (by omega) (by omega)
  outRows M 0 (rows256 (by omega) (by omega)) gate
  outRows M 256 (rows256 (by omega) (by omega)) gate
  outRows M 512 (rows256 (by omega) (by omega)) gate
  outRows M 768 (rows256 (by omega) (by omega)) gate

end

end Cert.Ffn
-- ==== Proof.Ffn.Match.lean ====
/-
  The printed feed-forward body is the parametrised one, at the slots the call's memrefs are.
-/
module

public import proofs.«01_k».proof.Proof.Ffn.Program
public import proofs.«01_k».proof.Proof.Gen.Kernel2Ideal.Launch

@[expose] public section

set_option maxRecDepth 100000

noncomputable section

namespace Cert.Ffn

open Idealize.ShloMosaic Idealize.SL.Sem Cert.Kernel2Ideal Cert.Kernel2Ideal.Gen

variable {F : FTy → Type} [FloatOps F]

/-- The call's memrefs as the slots' ones. -/
@[reducible] def slots (arg2 : Memref sig .tc .vmem S1x1024x1024 .f32) (arg3 : Memref sig .tc .vmem S1x3x1024 .f32)
    (arg4 arg5 : Memref sig .tc .vmem S1x1024 .f32) (arg6 : Memref sig .tc .vmem S1024x5632 .bf16)
    (arg7 : Memref sig .tc .vmem S3x5632 .f32) (arg8 : Memref sig .tc .vmem S1x5632 .f32)
    (arg9 : Memref sig .tc .vmem S2816x1024 .bf16) (arg10 : Memref sig .tc .vmem S1x1024x1024 .f32)
    (arg11 : Memref sig .tc .vmem S1024x1024 .bf16) (arg12 : Memref sig .tc .vmem S1024x2816 .bf16)
    (arg13 : Memref sig .tc .vmem S8x1032x128 .f32) (arg14 arg15 : Memref sig .tc .vmem S44x8x128 .f32) :
    (k : Slot) → Memref sig .tc .vmem (sh k) (el k)
  | .x => arg2 | .md => arg3 | .gpre => arg4 | .gpost => arg5 | .wup => arg6 | .wdw => arg7 | .bdw => arg8
  | .wdn => arg9 | .out => arg10 | .h => arg11 | .act => arg12 | .win => arg13 | .hold => arg14 | .hnew => arg15

/-- Programs that begin with the same effect are equal when what follows is. -/
theorem step {E : Type → Type} {α β : Type} {e : E β} {k k' : β → Prog E α} (h : ∀ x, k x = k' x) :
    Prog.op e k = Prog.op e k' := congrArg (Prog.op e) (funext h)

/-- A point is a sequence's first or not. -/
theorem conds : ∀ s : ℕ, s < 4 →
    (Scalar.cmpi .ne ((Scalar.extui (Scalar.cmpi .eq (BitVec.ofNat 32 s) 0#32)) : BitVec 32) 0#32 = 1#1
      ∧ ¬ Scalar.cmpi .ne ((Scalar.extui (Scalar.cmpi .sgt (BitVec.ofNat 32 s) 0#32)) : BitVec 32) 0#32 = 1#1)
    ∨ (¬ Scalar.cmpi .ne ((Scalar.extui (Scalar.cmpi .eq (BitVec.ofNat 32 s) 0#32)) : BitVec 32) 0#32 = 1#1
      ∧ Scalar.cmpi .ne ((Scalar.extui (Scalar.cmpi .sgt (BitVec.ofNat 32 s) 0#32)) : BitVec 32) 0#32 = 1#1) := by
  decide

set_option maxHeartbeats 0 in
theorem body_eq (i : grid0.Coords) (arg2 : Memref sig .tc .vmem S1x1024x1024 .f32) (harg2 : arg2.IsWhole)
    (arg3 : Memref sig .tc .vmem S1x3x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1024x5632 .bf16) (harg6 : arg6.IsWhole)
    (arg7 : Memref sig .tc .vmem S3x5632 .f32) (harg7 : arg7.IsWhole)
    (arg8 : Memref sig .tc .vmem S1x5632 .f32) (harg8 : arg8.IsWhole)
    (arg9 : Memref sig .tc .vmem S2816x1024 .bf16) (harg9 : arg9.IsWhole)
    (arg10 : Memref sig .tc .vmem S1x1024x1024 .f32) (harg10 : arg10.IsWhole)
    (arg11 : Memref sig .tc .vmem S1024x1024 .bf16) (harg11 : arg11.IsWhole)
    (arg12 : Memref sig .tc .vmem S1024x2816 .bf16) (harg12 : arg12.IsWhole)
    (arg13 : Memref sig .tc .vmem S8x1032x128 .f32) (harg13 : arg13.IsWhole)
    (arg14 : Memref sig .tc .vmem S44x8x128 .f32) (harg14 : arg14.IsWhole)
    (arg15 : Memref sig .tc .vmem S44x8x128 .f32) (harg15 : arg15.IsWhole)
    (hM : ∀ k, (slots arg2 arg3 arg4 arg5 arg6 arg7 arg8 arg9 arg10 arg11 arg12 arg13 arg14 arg15 k).IsWhole) :
    cc0_ffn (F := F) i arg2 harg2 arg3 harg3 arg4 harg4 arg5 harg5 arg6 harg6 arg7 harg7 arg8 harg8 arg9 harg9 arg10 harg10
      arg11 harg11 arg12 harg12 arg13 harg13 arg14 harg14 arg15 harg15
      = body (slots arg2 arg3 arg4 arg5 arg6 arg7 arg8 arg9 arg10 arg11 arg12 arg13 arg14 arg15) hM (i 1).val := by
  rcases conds (i 1).val (i 1).isLt with ⟨h1, h2⟩ | ⟨h1, h2⟩
  · unfold cc0_ffn k0_part69 k0_part1 body start
    simp only [dif_pos h1, dif_neg h2]
    repeat (refine step (fun _ => ?_))
    rfl
  · unfold cc0_ffn k0_part69 k0_part1 body start
    simp only [dif_neg h1, dif_pos h2]
    repeat (refine step (fun _ => ?_))
    rfl

end Cert.Ffn
-- ==== Proof.Ffn.Index.lean ====
/-
  Vectors read at natural numbers. `at1`, `at2` and `at3` read a vector at coordinates given as numbers, zero outside
  its shape, so that windows, puts, casts, slices and joins of vectors are equations of numbers.
-/
module

public import proofs.«01_k».proof.Proof.Ffn.Program
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Ffn

open Idealize.ShloMosaic Idealize.ShloMosaic.ValueIdx

/-- A vector of one axis at a number. -/
def at1 {a : ℕ} (v : (sh1 a).Idx → EReal) (i : ℕ) : EReal := if h : i < a then v (ix1 ⟨i, h⟩) else 0
/-- A matrix at two numbers. -/
def at2 {a b : ℕ} (v : (sh2 a b).Idx → EReal) (i j : ℕ) : EReal :=
  if h : i < a ∧ j < b then v (ix2 ⟨i, h.1⟩ ⟨j, h.2⟩) else 0
/-- A vector of three axes at three numbers. -/
def at3 {a b c : ℕ} (v : (sh3 a b c).Idx → EReal) (i j k : ℕ) : EReal :=
  if h : i < a ∧ j < b ∧ k < c then v (ix3 ⟨i, h.1⟩ ⟨j, h.2.1⟩ ⟨k, h.2.2⟩) else 0

theorem at1_mk {a : ℕ} (v : (sh1 a).Idx → EReal) {i : ℕ} (hi : i < a) : at1 v i = v (ix1 ⟨i, hi⟩) := dif_pos hi
theorem at2_mk {a b : ℕ} (v : (sh2 a b).Idx → EReal) {i j : ℕ} (hi : i < a) (hj : j < b) :
    at2 v i j = v (ix2 ⟨i, hi⟩ ⟨j, hj⟩) := dif_pos ⟨hi, hj⟩
theorem at3_mk {a b c : ℕ} (v : (sh3 a b c).Idx → EReal) {i j k : ℕ} (hi : i < a) (hj : j < b) (hk : k < c) :
    at3 v i j k = v (ix3 ⟨i, hi⟩ ⟨j, hj⟩ ⟨k, hk⟩) := dif_pos ⟨hi, hj, hk⟩

/-- A window of a matrix. -/
theorem at2_window {a b s0 s1 o0 o1 : ℕ} (v : (sh2 a b).Idx → EReal)
    (inb : ∀ x, (![o0, o1] : Fin 2 → ℕ) x + (![s0, s1] : Fin 2 → ℕ) x ≤ (sh2 a b).size x) {i j : ℕ} (hi : i < s0) (hj : j < s1) :
    at2 (a := s0) (b := s1) (VecWindow.window (s := sh2 a b) v ![o0, o1] ![s0, s1] inb) i j = at2 v (o0 + i) (o1 + j) := by
  have h0 : o0 + s0 ≤ a := inb 0
  have h1 : o1 + s1 ≤ b := inb 1
  rw [at2_mk _ hi hj, at2_mk v (by omega) (by omega)]
  refine congrArg v (funext fun x => Fin.ext ?_)
  match x with
  | ⟨0, _⟩ => show o0 + 1 * i = o0 + i; omega
  | ⟨1, _⟩ => show o1 + 1 * j = o1 + j; omega

/-- A window of a vector of three axes. -/
theorem at3_window {a b c s0 s1 s2 o0 o1 o2 : ℕ} (v : (sh3 a b c).Idx → EReal)
    (inb : ∀ x, (![o0, o1, o2] : Fin 3 → ℕ) x + (![s0, s1, s2] : Fin 3 → ℕ) x ≤ (sh3 a b c).size x) {i j k : ℕ}
    (hi : i < s0) (hj : j < s1) (hk : k < s2) :
    at3 (a := s0) (b := s1) (c := s2) (VecWindow.window (s := sh3 a b c) v ![o0, o1, o2] ![s0, s1, s2] inb) i j k
      = at3 v (o0 + i) (o1 + j) (o2 + k) := by
  have h0 : o0 + s0 ≤ a := inb 0
  have h1 : o1 + s1 ≤ b := inb 1
  have h2 : o2 + s2 ≤ c := inb 2
  rw [at3_mk _ hi hj hk, at3_mk v (by omega) (by omega) (by omega)]
  refine congrArg v (funext fun x => Fin.ext ?_)
  match x with
  | ⟨0, _⟩ => show o0 + 1 * i = o0 + i; omega
  | ⟨1, _⟩ => show o1 + 1 * j = o1 + j; omega
  | ⟨2, _⟩ => show o2 + 1 * k = o2 + k; omega

/-- A matrix with a window put. -/
theorem at2_put {a b s0 s1 o0 o1 : ℕ} (v : (sh2 a b).Idx → EReal) (w : (sh2 s0 s1).Idx → EReal) {i j : ℕ} (hi : i < a) (hj : j < b) :
    at2 (VecWindow.put (s := sh2 a b) v ![o0, o1] ![s0, s1] w) i j
      = if (o0 ≤ i ∧ i < o0 + s0) ∧ (o1 ≤ j ∧ j < o1 + s1) then at2 w (i - o0) (j - o1) else at2 v i j := by
  rw [at2_mk _ hi hj]
  unfold VecWindow.put
  by_cases h : (o0 ≤ i ∧ i < o0 + s0) ∧ (o1 ≤ j ∧ j < o1 + s1)
  · rw [dif_pos (Fin.forall_fin_two.mpr h), if_pos h, at2_mk w (by omega) (by omega)]
    refine congrArg w (funext fun x => Fin.ext ?_)
    match x with
    | ⟨0, _⟩ => rfl
    | ⟨1, _⟩ => rfl
  · rw [dif_neg (fun hh => h (Fin.forall_fin_two.mp hh)), if_neg h, at2_mk v hi hj]

/-- A vector of three axes with a window put. -/
theorem at3_put {a b c s0 s1 s2 o0 o1 o2 : ℕ} (v : (sh3 a b c).Idx → EReal) (w : (sh3 s0 s1 s2).Idx → EReal) {i j k : ℕ}
    (hi : i < a) (hj : j < b) (hk : k < c) :
    at3 (VecWindow.put (s := sh3 a b c) v ![o0, o1, o2] ![s0, s1, s2] w) i j k
      = if (o0 ≤ i ∧ i < o0 + s0) ∧ (o1 ≤ j ∧ j < o1 + s1) ∧ (o2 ≤ k ∧ k < o2 + s2) then at3 w (i - o0) (j - o1) (k - o2)
        else at3 v i j k := by
  rw [at3_mk _ hi hj hk]
  unfold VecWindow.put
  by_cases h : (o0 ≤ i ∧ i < o0 + s0) ∧ (o1 ≤ j ∧ j < o1 + s1) ∧ (o2 ≤ k ∧ k < o2 + s2)
  · rw [dif_pos (by
      intro x
      match x with
      | ⟨0, _⟩ => exact h.1
      | ⟨1, _⟩ => exact h.2.1
      | ⟨2, _⟩ => exact h.2.2), if_pos h, at3_mk w (by omega) (by omega) (by omega)]
    refine congrArg w (funext fun x => Fin.ext ?_)
    match x with
    | ⟨0, _⟩ => rfl
    | ⟨1, _⟩ => rfl
    | ⟨2, _⟩ => rfl
  · rw [dif_neg (fun hh => h ⟨hh 0, hh 1, hh 2⟩), if_neg h, at3_mk v hi hj hk]

/-- A leading unit axis dropped. -/
theorem at2_cast32 {b c : ℕ} (v : (sh3 1 b c).Idx → EReal) (h : (sh3 1 b c).ShapeCasts (sh2 b c)) {i j : ℕ} (hi : i < b) (hj : j < c) :
    at2 (shapeCast (sh2 b c) v h) i j = at3 v 0 i j := by
  rw [at2_mk _ hi hj, at3_mk v Nat.one_pos hi hj, shapeCast_1ab_ab_apply]
  rfl

/-- A leading unit axis added. -/
theorem at3_cast23 {b c : ℕ} (v : (sh2 b c).Idx → EReal) (h : (sh2 b c).ShapeCasts (sh3 1 b c)) {i j : ℕ} (hi : i < b) (hj : j < c) :
    at3 (shapeCast (sh3 1 b c) v h) 0 i j = at2 v i j := by
  rw [at3_mk _ Nat.one_pos hi hj, at2_mk v hi hj]
  exact shapeCast_ab_1ab_apply v h ⟨0, Nat.one_pos⟩ ⟨i, hi⟩ ⟨j, hj⟩

/-- A column of a slice of columns. -/
theorem at2_sliceCol {a b m o : ℕ} (v : (sh2 a b).Idx → EReal) (h : (sh2 a b).Slices (![0, o] : Fin 2 → ℕ) (sh2 a m)) {i j : ℕ}
    (hi : i < a) (hj : j < m) : at2 (extractStridedSlice (sh2 a m) ![0, o] v h) i j = at2 v i (o + j) := by
  have h1 : o + m ≤ b := h.2 1
  rw [at2_mk _ hi hj, at2_mk v hi (by omega)]
  exact slice2_axis1_apply o v h ⟨i, hi⟩ ⟨j, hj⟩ ⟨o + j, by omega⟩ rfl

/-- A row of a slice of rows. -/
theorem at2_sliceRow {a b m o : ℕ} (v : (sh2 a b).Idx → EReal) (h : (sh2 a b).Slices (![o, 0] : Fin 2 → ℕ) (sh2 m b)) {i j : ℕ}
    (hi : i < m) (hj : j < b) : at2 (extractStridedSlice (sh2 m b) ![o, 0] v h) i j = at2 v (o + i) j := by
  have h1 : o + m ≤ a := h.2 0
  rw [at2_mk _ hi hj, at2_mk v (by omega) hj]
  exact slice2_axis0_apply o v h ⟨i, hi⟩ ⟨j, hj⟩ ⟨o + i, by omega⟩ rfl

/-- Two halves of the columns joined. -/
theorem at2_cat {n : ℕ} (y0 y1 : (sh2 n 128).Idx → EReal) {i j : ℕ} (hi : i < n) (hj : j < 256) :
    at2 (concatenate (sh2 n 256) 1 [⟨sh2 n 128, y0⟩, ⟨sh2 n 128, y1⟩] (catCols n)) i j
      = if j < 128 then at2 y0 i j else at2 y1 i (j - 128) := by
  rw [at2_mk _ hi hj]
  by_cases h : j < 128
  · rw [if_pos h, at2_mk y0 hi h]
    refine concatenate_pair_apply_left (t := sh2 n 256) (1 : Fin 2) y0 y1 (catCols n) _ rfl (ix2 ⟨i, hi⟩ ⟨j, h⟩) ?_
    intro b
    match b with
    | ⟨0, _⟩ => rfl
    | ⟨1, _⟩ => rfl
  · rw [if_neg h, at2_mk y1 hi (by omega)]
    refine concatenate_pair_apply_right (t := sh2 n 256) (1 : Fin 2) y0 y1 (catCols n) _ rfl rfl (ix2 ⟨i, hi⟩ ⟨j - 128, by omega⟩) ?_ ?_
    · intro b hb
      match b with
      | ⟨0, _⟩ => rfl
      | ⟨1, _⟩ => exact absurd rfl hb
    · show j - 128 + 128 = j
      omega

end Cert.Ffn
-- ==== Proof.Ffn.Pure.lean ====
/-
  What the body's pure functions compute over the extended reals, read at natural numbers.
-/
module

public import proofs.«01_k».proof.Proof.Ffn.Index

@[expose] public section

noncomputable section

open scoped BigOperators

namespace Cert.Ffn

open Idealize.ShloMosaic Idealize.ShloMosaic.ValueIdx

/-- A number of the program. -/
abbrev num (b : BitVec 32) : EReal := Ideal.ofBits .f32 b

/-- `v · rsqrt(mean v² + ε)` at a place. -/
def rmsF (v : ℕ → EReal) (j : ℕ) : EReal :=
  v j * Ideal.rsqrt (Ideal.div (∑ k : Fin 1024, v k * v k) (num 0x44800000#32) + num 0x358637BD#32)

/-- The tanh form of gelu, in the kernel's order. -/
def geluF (g : EReal) : EReal :=
  g * (num 0x3F000000#32 * (num 0x3F800000#32 + Ideal.tanh (num 0x3F4C422A#32 * (g + num 0x3D372713#32 * (g * (g * g))))))

theorem at2_congr {a b : ℕ} {v w : (sh2 a b).Idx → EReal} (h : v = w) (i j : ℕ) : at2 v i j = at2 w i j := by rw [h]

theorem rmsF_congr {v w : ℕ → EReal} (h : ∀ k, k < 1024 → v k = w k) {j : ℕ} (hj : j < 1024) : rmsF v j = rmsF w j := by
  unfold rmsF
  rw [h j hj, Finset.sum_congr rfl (fun k _ => by rw [h k.val k.isLt])]

theorem at2_rms (n : ℕ) (v : FVec Ideal (sh2 n 1024) .f32) {i j : ℕ} (hi : i < n) (hj : j < 1024) :
    at2 (rmsCore n v) i j = rmsF (at2 v i) j := by
  rw [at2_mk _ hi hj]
  unfold rmsCore rmsF
  rw [mulf_apply, at2_mk v hi hj]
  congr 1
  rw [broadcastTo_apply (t := sh2 n 1024) _ (bcCol n 1024) (ix2 (⟨i, hi⟩ : Fin n) (⟨j, hj⟩ : Fin 1024))
    (ix2 (⟨i, hi⟩ : Fin n) (⟨0, Nat.one_pos⟩ : Fin 1)) (by
      intro b
      match b with
      | ⟨0, _⟩ =>
        show i = if n = 1 then 0 else i
        split <;> omega
      | ⟨1, _⟩ => rfl)]
  show Ideal.rsqrt _ = _
  congr 1
  rw [addf_apply, divf_apply, broadcast_apply, broadcast_apply, shapeCast_a_a1_apply]
  congr 2
  refine (Ideal.multiReduction_add_single (mulf v v) 0x00000000#32 (redRow n 1024) (.inl rfl) rfl _).trans ?_
  refine Finset.sum_congr rfl fun k _ => ?_
  rw [mulf_apply, at2_mk v hi k.isLt, show (redRow n 1024).lift (ix1 ⟨i, hi⟩) k = ix2 (⟨i, hi⟩ : Fin n) (⟨k.val, k.isLt⟩ : Fin 1024) from by
    funext x
    match x with
    | ⟨0, _⟩ => rfl
    | ⟨1, _⟩ => rfl]

theorem at2_up (n : ℕ) (hs : FVec Ideal (sh2 n 1024) .bf16) (w : FVec Ideal (sh2 1024 256) .bf16) {i j : ℕ} (hi : i < n) (hj : j < 256) :
    at2 (upVal n hs w) i j = ∑ k : Fin 1024, at2 hs i k * at2 w k j := by
  rw [at2_mk _ hi hj]
  unfold upVal
  show FloatOps.matmul (DotDims.plain n 1024 256) none hs w _ _ = _
  rw [Ideal.matmul_plain_apply, constant_apply, Ideal.ofBits_zero_f32, zero_add]
  exact Finset.sum_congr rfl fun k _ => by rw [at2_mk hs hi k.isLt, at2_mk w k.isLt hj]

theorem at2_row {n c : ℕ} (w : FVec Ideal (sh2 1 c) .f32) {i j : ℕ} (hi : i < n) (hj : j < c) :
    at2 (broadcastTo (sh2 n c) w (bcRow n c)) i j = at2 w 0 j := by
  rw [at2_mk _ hi hj, at2_mk w Nat.one_pos hj]
  exact broadcastTo_1b_ab_apply w (bcRow n c) ⟨i, hi⟩ ⟨j, hj⟩

theorem at2_add {a b : ℕ} (v w : FVec Ideal (sh2 a b) .f32) {i j : ℕ} (hi : i < a) (hj : j < b) : at2 (addf v w) i j = at2 v i j + at2 w i j := by
  rw [at2_mk _ hi hj, at2_mk v hi hj, at2_mk w hi hj]; rfl

theorem at2_mul {a b : ℕ} (v w : FVec Ideal (sh2 a b) .f32) {i j : ℕ} (hi : i < a) (hj : j < b) : at2 (mulf v w) i j = at2 v i j * at2 w i j := by
  rw [at2_mk _ hi hj, at2_mk v hi hj, at2_mk w hi hj]; rfl

theorem at2_bcast {a b : ℕ} (x : BitVec 32) {i j : ℕ} (hi : i < a) (hj : j < b) :
    at2 (broadcast (sh2 a b) (Scalar.ofBits (F := Ideal) .f32 x)) i j = num x := by
  rw [at2_mk _ hi hj]; rfl

theorem at2_trunc {a b : ℕ} (v : FVec Ideal (sh2 a b) .f32) (h : FTy.bf16.bits < FTy.f32.bits) (i j : ℕ) :
    at2 (truncf .bf16 v h : FVec Ideal (sh2 a b) .bf16) i j = at2 v i j := rfl

theorem at2_same {a b : ℕ} (v : FVec Ideal (sh2 a b) .f32) (h : (sh2 a b).ShapeCasts (sh2 a b)) : shapeCast (sh2 a b) v h = v :=
  shapeCast_self v h

theorem at2_tap (n : ℕ) (y : FVec Ideal (sh2 n 128) .f32) (w : FVec Ideal (sh2 1 128) .f32) (v : FVec Ideal (sh3 1 n 128) .f32) {i j : ℕ}
    (hi : i < n) (hj : j < 128) : at2 (tap n y w v) i j = at2 y i j + at2 w 0 j * at3 v 0 i j := by
  unfold tap
  rw [at2_add _ _ hi hj, at2_mul _ _ hi hj, at2_row _ hi hj, at2_cast32 _ _ hi hj]

theorem at2_tap2 (n : ℕ) (b w : FVec Ideal (sh2 1 128) .f32) (u : FVec Ideal (sh2 n 128) .f32) {i j : ℕ} (hi : i < n) (hj : j < 128) :
    at2 (tap2 n b w u) i j = at2 b 0 j + at2 w 0 j * at2 u i j := by
  unfold tap2
  rw [at2_add _ _ hi hj, at2_mul _ _ hi hj, at2_row _ hi hj, at2_row _ hi hj, at2_same]

theorem at2_act (n : ℕ) (v g : FVec Ideal (sh2 n 256) .f32) {i j : ℕ} (hi : i < n) (hj : j < 256) :
    at2 (actVal n v g) i j = geluF (at2 g i j) * at2 v i j := by
  rw [at2_mk _ hi hj, at2_mk v hi hj, at2_mk g hi hj]
  rfl

theorem at2_h (n : ℕ) (shift scale g : FVec Ideal (sh2 1 1024) .f32) (xs : FVec Ideal (sh3 1 n 1024) .f32) {i j : ℕ} (hi : i < n) (hj : j < 1024) :
    at2 (hVal n shift scale g xs) i j
      = rmsF (at3 xs 0 i) j * at2 g 0 j * (num 0x3F800000#32 + at2 scale 0 j) + at2 shift 0 j := by
  unfold hVal
  rw [at2_trunc, at2_add _ _ hi hj, at2_mul _ _ hi hj, at2_mul _ _ hi hj, at2_row _ hi hj, at2_row _ hi hj, at2_row _ hi hj, at2_same,
    at2_add _ _ Nat.one_pos hj, at2_bcast _ Nat.one_pos hj, at2_rms _ _ hi hj]
  rw [rmsF_congr (fun k hk => at2_cast32 xs _ hi hk) hj]

theorem at2_out (gate g : FVec Ideal (sh2 1 1024) .f32) (a : FVec Ideal (sh2 256 2816) .bf16) (w : FVec Ideal (sh2 2816 1024) .bf16)
    (xs : FVec Ideal (sh3 1 256 1024) .f32) {i j : ℕ} (hi : i < 256) (hj : j < 1024) :
    at2 (outVal gate a w xs g) i j
      = at3 xs 0 i j + at2 gate 0 j * (rmsF (fun q => ∑ k : Fin 2816, at2 a i k * at2 w k q) j * at2 g 0 j) := by
  unfold outVal
  rw [at2_add _ _ hi hj, at2_mul _ _ hi hj, at2_mul _ _ hi hj, at2_row _ hi hj, at2_row _ hi hj, at2_same, at2_rms _ _ hi hj, at2_cast32 _ _ hi hj]
  congr 3
  refine rmsF_congr (fun q hq => ?_) hj
  rw [at2_mk _ hi hq]
  show FloatOps.matmul (DotDims.plain 256 2816 1024) none a w _ _ = _
  rw [Ideal.matmul_plain_apply, constant_apply, Ideal.ofBits_zero_f32, zero_add]
  exact Finset.sum_congr rfl fun k _ => by rw [at2_mk a hi k.isLt, at2_mk w k.isLt hq]

end Cert.Ffn
-- ==== Proof.Ffn.Spec.lean ====
/-
  What one block of the feed-forward part computes, over the extended reals and at natural numbers: the modulated rows,
  the up projection with the eight rows before the block in front of it, the causal convolution, the gated activations
  and the result's rows. All are functions of the eight input buffers (a heap `H0`) and of the rows before (`old`).
-/
module

public import proofs.«01_k».proof.Proof.Ffn.Pure

@[expose] public section

noncomputable section

open scoped BigOperators

namespace Cert.Ffn

open Idealize.ShloMosaic

/-- What every slot reads. -/
abbrev HeapI := (k : Slot) → Vec Ideal (sh k) (el k)

variable (H0 : HeapI) (old : ℕ → ℕ → EReal)

/-- The modulated rows. -/
def hS (r k : ℕ) : EReal :=
  rmsF (at3 (H0 .x) 0 r) k * at2 (H0 .gpre) 0 k * (num 0x3F800000#32 + at3 (H0 .md) 0 1 k) + at3 (H0 .md) 0 0 k

/-- The up projection. -/
def upS (r c : ℕ) : EReal := ∑ k : Fin 1024, hS H0 r k * at2 (H0 .wup) k c

/-- The up projection with the eight rows before the block in front. -/
def extS (e c : ℕ) : EReal := if e < 8 then old e c else upS H0 (e - 8) c

/-- The convolution, in the kernel's order of the taps. -/
def convS (r c : ℕ) : EReal :=
  at2 (H0 .bdw) 0 c + at2 (H0 .wdw) 2 c * extS H0 old (8 + r) c + at2 (H0 .wdw) 0 c * extS H0 old (6 + r) c
    + at2 (H0 .wdw) 1 c * extS H0 old (7 + r) c

/-- The gated activations. -/
def actS (r j : ℕ) : EReal := geluF (convS H0 old r (2816 + j)) * convS H0 old r j

/-- The result's rows. -/
def outS (r q : ℕ) : EReal :=
  at3 (H0 .x) 0 r q + at3 (H0 .md) 0 2 q
    * (rmsF (fun q => ∑ k : Fin 2816, actS H0 old r k * at2 (H0 .wdn) k q) q * at2 (H0 .gpost) 0 q)

/-- The slots that the body only reads. -/
def isIn : Slot → Bool
  | .x => true | .md => true | .gpre => true | .gpost => true | .wup => true | .wdw => true | .bdw => true | .wdn => true
  | .out => false | .h => false | .act => false | .win => false | .hold => false | .hnew => false

/-- What is known of the slots in the body's course: `hn` modulated rows are there, the activations `done`, the kept
rows of the slabs `kept`, and `on` of the result's rows. -/
structure St (hn : ℕ) (done : ℕ → ℕ → Prop) (kept : ℕ → Prop) (on : ℕ) (H : HeapI) : Prop where
  same : ∀ k, isIn k = true → H k = H0 k
  h : ∀ r, r < hn → ∀ k, k < 1024 → at2 (H .h) r k = hS H0 r k
  act : ∀ r, r < 1024 → ∀ j, j < 2816 → done r j → at2 (H .act) r j = actS H0 old r j
  prev : ∀ k, k < 44 → ∀ r, r < 8 → ∀ l, l < 128 → at3 (H .hold) k r l = old r (128 * k + l)
  keep : ∀ k, k < 44 → kept k → ∀ r, r < 8 → ∀ l, l < 128 → at3 (H .hnew) k r l = extS H0 old (1024 + r) (128 * k + l)
  out : ∀ r, r < on → ∀ q, q < 1024 → at3 (H .out) 0 r q = outS H0 old r q

/-- The first `m` rows of window `w` are slab `k`'s. -/
def Win (w k m : ℕ) (H : HeapI) : Prop :=
  ∀ e, e < m → ∀ l, l < 128 → at3 (H .win) w e l = extS H0 old e (128 * k + l)

/-- The windows but `w` are as they were. -/
def WinSame (w : ℕ) (H H' : HeapI) : Prop :=
  ∀ w', w' < 8 → w' ≠ w → ∀ e, e < 1032 → ∀ l, l < 128 → at3 (H' .win) w' e l = at3 (H .win) w' e l

variable {H0 old}

theorem WinSame.refl (w : ℕ) (H : HeapI) : WinSame w H H := fun _ _ _ _ _ _ _ => rfl
theorem WinSame.trans {w : ℕ} {H H' H'' : HeapI} (h : WinSame w H H') (h' : WinSame w H' H'') : WinSame w H H'' :=
  fun a b c d e f g => (h' a b c d e f g).trans (h a b c d e f g)

theorem Win.of_same {w w' k m : ℕ} {H H' : HeapI} (h : Win H0 old w' k m H) (hs : WinSame w H H') (hw : w' < 8) (hne : w' ≠ w)
    (hm : m ≤ 1032) : Win H0 old w' k m H' := fun e he l hl =>
  (hs w' hw hne e (by omega) l hl).trans (h e he l hl)

theorem Win.of_eq {w k m : ℕ} {H H' : HeapI} (h : Win H0 old w k m H) (he : H' .win = H .win) : Win H0 old w k m H' := by
  unfold Win; rw [he]; exact h

variable {hn on : ℕ} {done : ℕ → ℕ → Prop} {kept : ℕ → Prop} {H : HeapI}

theorem St.mono (s : St H0 old hn done kept on H) {done' : ℕ → ℕ → Prop} {kept' : ℕ → Prop}
    (hd : ∀ r, r < 1024 → ∀ j, j < 2816 → done' r j → done r j) (hk : ∀ k, k < 44 → kept' k → kept k) : St H0 old hn done' kept' on H :=
  { s with act := fun r hr j hj h => s.act r hr j hj (hd r hr j hj h), keep := fun k hk' h => s.keep k hk' (hk k hk' h) }

/-- A slot that the state says nothing of. -/
theorem St.win (s : St H0 old hn done kept on H) (X : Vec Ideal (sh .win) (el .win)) :
    St H0 old hn done kept on (Function.update H .win X) where
  same k hk := by rw [Function.update_of_ne (by rintro rfl; exact absurd hk (by decide))]; exact s.same k hk
  h := by rw [Function.update_of_ne (by decide)]; exact s.h
  act := by rw [Function.update_of_ne (by decide)]; exact s.act
  prev := by rw [Function.update_of_ne (by decide)]; exact s.prev
  keep := by rw [Function.update_of_ne (by decide)]; exact s.keep
  out := by rw [Function.update_of_ne (by decide)]; exact s.out

theorem St.setKeep (s : St H0 old hn done kept on H) {X : Vec Ideal (sh .hnew) (el .hnew)} {kept' : ℕ → Prop}
    (h : ∀ k, k < 44 → kept' k → ∀ r, r < 8 → ∀ l, l < 128 → at3 X k r l = extS H0 old (1024 + r) (128 * k + l)) :
    St H0 old hn done kept' on (Function.update H .hnew X) where
  same k hk := by rw [Function.update_of_ne (by rintro rfl; exact absurd hk (by decide))]; exact s.same k hk
  h := by rw [Function.update_of_ne (by decide)]; exact s.h
  act := by rw [Function.update_of_ne (by decide)]; exact s.act
  prev := by rw [Function.update_of_ne (by decide)]; exact s.prev
  keep := by rw [Function.update_self]; exact h
  out := by rw [Function.update_of_ne (by decide)]; exact s.out

theorem St.setH (s : St H0 old hn done kept on H) {X : Vec Ideal (sh .h) (el .h)} {hn' : ℕ}
    (h : ∀ r, r < hn' → ∀ k, k < 1024 → at2 X r k = hS H0 r k) : St H0 old hn' done kept on (Function.update H .h X) where
  same k hk := by rw [Function.update_of_ne (by rintro rfl; exact absurd hk (by decide))]; exact s.same k hk
  h := by rw [Function.update_self]; exact h
  act := by rw [Function.update_of_ne (by decide)]; exact s.act
  prev := by rw [Function.update_of_ne (by decide)]; exact s.prev
  keep := by rw [Function.update_of_ne (by decide)]; exact s.keep
  out := by rw [Function.update_of_ne (by decide)]; exact s.out

theorem St.setAct (s : St H0 old hn done kept on H) {X : Vec Ideal (sh .act) (el .act)} {done' : ℕ → ℕ → Prop}
    (h : ∀ r, r < 1024 → ∀ j, j < 2816 → done' r j → at2 X r j = actS H0 old r j) :
    St H0 old hn done' kept on (Function.update H .act X) where
  same k hk := by rw [Function.update_of_ne (by rintro rfl; exact absurd hk (by decide))]; exact s.same k hk
  h := by rw [Function.update_of_ne (by decide)]; exact s.h
  act := by rw [Function.update_self]; exact h
  prev := by rw [Function.update_of_ne (by decide)]; exact s.prev
  keep := by rw [Function.update_of_ne (by decide)]; exact s.keep
  out := by rw [Function.update_of_ne (by decide)]; exact s.out

theorem St.setOut (s : St H0 old hn done kept on H) {X : Vec Ideal (sh .out) (el .out)} {on' : ℕ}
    (h : ∀ r, r < on' → ∀ q, q < 1024 → at3 X 0 r q = outS H0 old r q) : St H0 old hn done kept on' (Function.update H .out X) where
  same k hk := by rw [Function.update_of_ne (by rintro rfl; exact absurd hk (by decide))]; exact s.same k hk
  h := by rw [Function.update_of_ne (by decide)]; exact s.h
  act := by rw [Function.update_of_ne (by decide)]; exact s.act
  prev := by rw [Function.update_of_ne (by decide)]; exact s.prev
  keep := by rw [Function.update_of_ne (by decide)]; exact s.keep
  out := by rw [Function.update_self]; exact h

end Cert.Ffn
-- ==== Proof.Ffn.Values.lean ====
/-
  What the parts of the body do to the slots: each part's triple over the block's specification.
-/
module

public import proofs.«01_k».proof.Proof.Ffn.Spec

@[expose] public section

noncomputable section

open scoped BigOperators

namespace Cert.Ffn

open Idealize.ShloMosaic Idealize.SL.Sem Cert.Heap

variable {nD : Nat} {τ : Topo} {sig : RefSig} {Λ : Labels}
  {defs : Defs nD τ sig (Elt Ideal) Λ} {c : Dev nD} {M : (k : Slot) → Memref sig .tc .vmem (sh k) (el k)} (hM : ∀ k, (M k).IsWhole)
  {H0 : HeapI} {old : ℕ → ℕ → EReal} {hn on : ℕ} {done : ℕ → ℕ → Prop} {kept : ℕ → Prop} {H : HeapI}

/-- A load, then the rest at the window read. -/
theorem ldB {β : Type} {k : Slot} {off size : Fin (sh k).rank → ℕ} {inb : ∀ a, off a + size a ≤ (sh k).size a}
    {h : 0 < (Rect.unit (s := sh k) off size inb).toLoadRect.shape.numel}
    {p : _ → Prog (TpuEff nD τ sig (Elt Ideal) Λ .tc) β} {Q : β → HeapI → Prop}
    (hp : Triple defs c M H (p (VecWindow.window (H k) off size inb)) Q) :
    Triple defs c M H (ld M k off size inb h >>= p) Q :=
  Triple.bind (Q' := fun a H' => a = VecWindow.window (H k) off size inb ∧ H' = H) (Triple.load k inb ⟨rfl, rfl⟩)
    (fun _ _ e => by rw [e.1, e.2]; exact hp)

/-- A store of 32-bit elements, at the end. -/
theorem stE {k : Slot} {off size : Fin (sh k).rank → ℕ} {inb : ∀ a, off a + size a ≤ (sh k).size a}
    {h : 0 < (Rect.unit (s := sh k) off size inb).shape.numel} {he : (el k).bits = 32}
    {w : (Rect.unit (s := sh k) off size inb).shape.Idx → Elt Ideal (el k)} {Q : PUnit → HeapI → Prop}
    (hq : Q ⟨⟩ (Function.update H k (VecWindow.put (H k) off size w))) :
    Triple defs c M H (st M k off size inb h he w) Q := Triple.store k inb hq

/-- A store of whole words, at the end. -/
theorem stpE {k : Slot} {off size : Fin (sh k).rank → ℕ} {inb : ∀ a, off a + size a ≤ (sh k).size a}
    {h : 0 < (Rect.unit (s := sh k) off size inb).shape.numel} {hp : (Rect.unit (s := sh k) off size inb).PackedRows (el k).packing}
    {w : (Rect.unit (s := sh k) off size inb).shape.Idx → Elt Ideal (el k)} {Q : PUnit → HeapI → Prop}
    (hq : Q ⟨⟩ (Function.update H k (VecWindow.put (H k) off size w))) :
    Triple defs c M H (stp M hM k off size inb h hp w) Q := Triple.store k inb hq

theorem slabOld_spec {w k : ℕ} (hw : w < 8) (hk : k < 44) (s : St H0 old hn done kept on H) :
    Triple defs c M H (slabOld M w k hw hk) fun _ H' =>
      St H0 old hn done kept on H' ∧ WinSame w H H' ∧ Win H0 old w k 8 H' := by
  unfold slabOld
  refine ldB (ldB (stE ⟨s.win _, ?_, ?_⟩))
  · intro w' hw' hne e he l hl
    rw [Function.update_self]
    refine (at3_put _ _ hw' he hl).trans (if_neg (by omega))
  · intro e he l hl
    rw [Function.update_self]
    refine (at3_put _ _ hw (by omega) hl).trans ((if_pos (by omega)).trans ?_)
    rw [Nat.sub_self, Nat.sub_zero, Nat.sub_zero]
    refine (at3_cast23 _ _ he hl).trans ((at2_cast32 _ _ he hl).trans ((at3_window _ _ Nat.one_pos he hl).trans ?_))
    simp only [Nat.add_zero, Nat.zero_add]
    rw [s.prev k hk e he l hl, extS, if_pos he]

theorem slabPut_spec {n r0 w k : ℕ} (hr : Rows n r0) (hw : w < 8) {u : FVec Ideal (sh2 n 128) .f32}
    (hu : ∀ i, i < n → ∀ l, l < 128 → at2 u i l = extS H0 old (8 + (r0 + i)) (128 * k + l)) (hwin : Win H0 old w k (8 + r0) H)
    (s : St H0 old hn done kept on H) :
    Triple defs c M H (slabPut M n r0 w hr hw u) fun _ H' =>
      St H0 old hn done kept on H' ∧ WinSame w H H' ∧ Win H0 old w k (8 + r0 + n) H' := by
  have hle := hr.le
  unfold slabPut
  refine ldB (stE ⟨s.win _, ?_, ?_⟩)
  · intro w' hw' hne e he l hl
    rw [Function.update_self]
    refine (at3_put _ _ hw' he hl).trans (if_neg (by omega))
  · intro e he l hl
    rw [Function.update_self]
    refine (at3_put _ _ hw (by omega) hl).trans ?_
    by_cases h : e < 8 + r0
    · rw [if_neg (by omega)]; exact hwin e h l hl
    · rw [if_pos (by omega), Nat.sub_self, Nat.sub_zero]
      refine (at3_cast23 _ _ (by omega) hl).trans ((hu _ (by omega) l hl).trans ?_)
      congr 1; omega

theorem slabKeep_spec {n r0 k : ℕ} (hn8 : 8 ≤ n) (hl : r0 + n = 1024) (hk : k < 44) {u : FVec Ideal (sh2 n 128) .f32}
    (hu : ∀ i, i < n → ∀ l, l < 128 → at2 u i l = extS H0 old (8 + (r0 + i)) (128 * k + l))
    (s : St H0 old hn done kept on H) :
    Triple defs c M H (slabKeep M n k hn8 hk u) fun _ H' =>
      St H0 old hn done (fun j => kept j ∨ j = k) on H' ∧ H' .win = H .win := by
  unfold slabKeep
  refine ldB (stE ⟨s.setKeep ?_, Function.update_of_ne (by decide) _ _⟩)
  intro j hj hkj r hr l hl'
  refine (at3_put _ _ hj hr hl').trans ?_
  by_cases h : j = k
  · subst h
    rw [if_pos (by omega), Nat.sub_self, Nat.sub_zero, Nat.sub_zero]
    refine (at3_cast23 _ _ hr hl').trans ((at2_sliceRow _ _ hr hl').trans ((hu _ (by omega) l hl').trans ?_))
    congr 1; omega
  · rw [if_neg (by omega)]
    exact s.keep j hj (hkj.resolve_right h) r hr l hl'

theorem slabTaps_spec {n r0 w k : ℕ} (hr : Rows n r0) (hw : w < 8) (hk : k < 44) {u : FVec Ideal (sh2 n 128) .f32}
    (hu : ∀ i, i < n → ∀ l, l < 128 → at2 u i l = extS H0 old (8 + (r0 + i)) (128 * k + l)) (hwin : Win H0 old w k (8 + r0 + n) H)
    (s : St H0 old hn done kept on H) :
    Triple defs c M H (slabTaps M n r0 w k hr hw hk u) fun y H' => H' = H ∧
      ∀ i, i < n → ∀ l, l < 128 → at2 y i l = convS H0 old (r0 + i) (128 * k + l) := by
  unfold slabTaps
  refine ldB (ldB (ldB (ldB (ldB (ldB (Triple.ret ⟨rfl, ?_⟩))))))
  intro i hi l hl
  refine (at2_tap _ _ _ _ hi hl).trans ?_
  rw [at2_tap _ _ _ _ hi hl, at2_tap2 _ _ _ _ hi hl, hu i hi l hl, convS]
  rw [show ∀ x : Vec Ideal (sh .bdw) (el .bdw), ∀ h, at2 (a := 1) (b := 128) (VecWindow.window x ![0, 128 * k] ![1, 128] h) 0 l = at2 x 0 (128 * k + l) from
    fun x h => at2_window x h Nat.one_pos hl]
  rw [show ∀ x : Vec Ideal (sh .wdw) (el .wdw), ∀ h, at2 (a := 1) (b := 128) (VecWindow.window x ![2, 128 * k] ![1, 128] h) 0 l = at2 x 2 (128 * k + l) from
    fun x h => at2_window x h Nat.one_pos hl]
  rw [show ∀ x : Vec Ideal (sh .wdw) (el .wdw), ∀ h, at2 (a := 1) (b := 128) (VecWindow.window x ![0, 128 * k] ![1, 128] h) 0 l = at2 x 0 (128 * k + l) from
    fun x h => at2_window x h Nat.one_pos hl]
  rw [show ∀ x : Vec Ideal (sh .wdw) (el .wdw), ∀ h, at2 (a := 1) (b := 128) (VecWindow.window x ![1, 128 * k] ![1, 128] h) 0 l = at2 x 1 (128 * k + l) from
    fun x h => at2_window x h Nat.one_pos hl]
  have e : ∀ o, o < 8 → ∀ h, at3 (a := 1) (b := n) (c := 128) (VecWindow.window (H .win) ![w, o + r0, 0] ![1, n, 128] h) 0 i l
      = extS H0 old (o + (r0 + i)) (128 * k + l) := fun o ho h => by
    refine (at3_window _ h Nat.one_pos hi hl).trans ?_
    simp only [Nat.add_zero, Nat.zero_add]
    rw [hwin _ (by omega) l hl, Nat.add_assoc]
  rw [e 6 (by omega), e 7 (by omega), s.same .bdw rfl, s.same .wdw rfl]

theorem slab_spec {fst lst : Bool} {n r0 w k : ℕ} (hr : Rows n r0) (hw : w < 8) (hk : k < 44) {u : FVec Ideal (sh2 n 128) .f32}
    (hf : fst = true → r0 = 0) (hl : lst = true → r0 + n = 1024) (hwin : fst = false → Win H0 old w k (8 + r0) H)
    (hu : ∀ i, i < n → ∀ l, l < 128 → at2 u i l = extS H0 old (8 + (r0 + i)) (128 * k + l))
    (s : St H0 old hn done kept on H) :
    Triple defs c M H (slab M fst lst n r0 w k hr hw hk u) fun y H' =>
      St H0 old hn done (fun j => kept j ∨ lst = true ∧ j = k) on H' ∧ WinSame w H H' ∧ Win H0 old w k (8 + r0 + n) H'
      ∧ ∀ i, i < n → ∀ l, l < 128 → at2 y i l = convS H0 old (r0 + i) (128 * k + l) := by
  unfold slab
  refine Triple.bind (Q' := fun _ H' => St H0 old hn done kept on H' ∧ WinSame w H H' ∧ Win H0 old w k (8 + r0) H') ?_ ?_
  · cases fst
    · exact Triple.ret ⟨s, .refl _ _, hwin rfl⟩
    · rw [hf rfl]; exact slabOld_spec hw hk s
  rintro - H1 ⟨s1, w1, x1⟩
  refine Triple.bind (slabPut_spec hr hw hu x1 s1) ?_
  rintro - H2 ⟨s2, w2, x2⟩
  refine Triple.bind (Q' := fun _ H' => St H0 old hn done (fun j => kept j ∨ lst = true ∧ j = k) on H' ∧ H' .win = H2 .win) ?_ ?_
  · cases lst
    · exact Triple.ret ⟨s2.mono (fun _ _ _ _ h => h) (fun j _ h => h.resolve_right (by simp)), rfl⟩
    · refine (slabKeep_spec hr.eight (hl rfl) hk hu s2).mono fun _ H' h => ⟨h.1.mono (fun _ _ _ _ h => h) (fun j _ h => ?_), h.2⟩
      exact h.imp id (·.2)
  rintro - H3 ⟨s3, x3⟩
  refine (slabTaps_spec hr hw hk hu (x2.of_eq x3) s3).mono ?_
  rintro y H' ⟨rfl, hy⟩
  refine ⟨s3, (w1.trans w2).trans ?_, x2.of_eq x3, hy⟩
  intro _ _ _ _ _ _ _
  rw [x3]

end Cert.Ffn
-- ==== Proof.Ffn.Body.lean ====
/-
  The body's value: from the eight inputs and the rows kept by the block before, the result's block and the rows kept
  for the next one.
-/
module

public import proofs.«01_k».proof.Proof.Ffn.Values

@[expose] public section

noncomputable section

open scoped BigOperators

namespace Cert.Ffn

open Idealize.ShloMosaic Idealize.SL.Sem Cert.Heap

variable {nD : Nat} {τ : Topo} {sig : RefSig} {Λ : Labels}
  {defs : Defs nD τ sig (Elt Ideal) Λ} {c : Dev nD} {M : (k : Slot) → Memref sig .tc .vmem (sh k) (el k)} (hM : ∀ k, (M k).IsWhole)
  {H0 : HeapI} {old : ℕ → ℕ → EReal} {hn on : ℕ} {done : ℕ → ℕ → Prop} {kept : ℕ → Prop} {H : HeapI}

/-- 256 columns of the convolution over a range. -/
theorem conv_spec {fst lst : Bool} {n r0 w q : ℕ} (hr : Rows n r0) (hw : w + 1 < 8) (hq : q < 22)
    (hf : fst = true → r0 = 0) (hl : lst = true → r0 + n = 1024) (hh : r0 + n ≤ hn)
    (hw0 : fst = false → Win H0 old w (2 * q) (8 + r0) H) (hw1 : fst = false → Win H0 old (w + 1) (2 * q + 1) (8 + r0) H)
    (s : St H0 old hn done kept on H) :
    Triple defs c M H (conv M fst lst n r0 w q hr hw hq) fun y H' =>
      St H0 old hn done (fun j => kept j ∨ lst = true ∧ (j = 2 * q ∨ j = 2 * q + 1)) on H'
      ∧ (∀ w' k, w' < 8 → w' ≠ w → w' ≠ w + 1 → ∀ m, m ≤ 1032 → Win H0 old w' k m H → Win H0 old w' k m H')
      ∧ Win H0 old w (2 * q) (8 + r0 + n) H' ∧ Win H0 old (w + 1) (2 * q + 1) (8 + r0 + n) H'
      ∧ ∀ i, i < n → ∀ j, j < 256 → at2 y i j = convS H0 old (r0 + i) (256 * q + j) := by
  have hle := hr.le
  have hup : ∀ i, i < n → ∀ j, j < 256 → ∀ h1 h2,
      at2 (a := n) (b := 256) (upVal (F := Ideal) n (VecWindow.window (H .h) ![r0, 0] ![n, 1024] h1) (VecWindow.window (H .wup) ![0, 256 * q] ![1024, 256] h2)) i j
        = extS H0 old (8 + (r0 + i)) (256 * q + j) := by
    intro i hi j hj h1 h2
    refine (at2_up _ _ _ hi hj).trans ?_
    rw [extS, if_neg (by omega), show 8 + (r0 + i) - 8 = r0 + i by omega, upS]
    refine Finset.sum_congr rfl fun k _ => congrArg₂ (· * ·) ?_ ?_
    · refine (at2_window _ h1 hi k.isLt).trans ?_
      rw [Nat.zero_add]
      exact s.h _ (by omega) _ k.isLt
    · refine (at2_window _ h2 k.isLt hj).trans ?_
      rw [Nat.zero_add, s.same .wup rfl]
  unfold conv
  refine ldB (ldB ?_)
  refine Triple.bind (slab_spec hr (by omega) (by omega) hf hl hw0 (fun i hi l hl' => ?_) s) ?_
  · refine (at2_sliceCol _ _ hi hl').trans ((hup i hi (0 + l) (by omega) _ _).trans ?_)
    congr 1; omega
  rintro y0 H1 ⟨s1, e1, x1, v1⟩
  refine Triple.bind (slab_spec hr hw (by omega) hf hl (fun hfst => (hw1 hfst).of_same e1 hw (by omega) (by omega)) (fun i hi l hl' => ?_) s1) ?_
  · refine (at2_sliceCol _ _ hi hl').trans ((hup i hi (128 + l) (by omega) _ _).trans ?_)
    congr 1; omega
  rintro y1 H2 ⟨s2, e2, x2, v2⟩
  refine Triple.ret ⟨s2.mono (fun _ _ _ _ h => h) (fun j _ h => ?_), ?_, x1.of_same e2 (by omega) (by omega) (by omega), x2, ?_⟩
  · rcases h with h | ⟨h, h' | h'⟩
    · exact .inl (.inl h)
    · exact .inl (.inr ⟨h, h'⟩)
    · exact .inr ⟨h, h'⟩
  · intro w' k hw' h0 h1 m hm hx
    exact (hx.of_same e1 hw' h0 hm).of_same e2 hw' h1 hm
  · intro i hi j hj
    refine (at2_cat _ _ hi hj).trans ?_
    split
    · rw [v1 i hi j (by omega)]; congr 1; omega
    · rw [v2 i hi (j - 128) (by omega)]; congr 1; omega

/-- The windows of one group of activation columns over the rows `[0, m)`. -/
def Wins (H0 : HeapI) (old : ℕ → ℕ → EReal) (w c m : ℕ) (H : HeapI) : Prop :=
  Win H0 old w (2 * c) m H ∧ Win H0 old (w + 1) (2 * c + 1) m H ∧ Win H0 old (w + 2) (2 * (11 + c)) m H
    ∧ Win H0 old (w + 2 + 1) (2 * (11 + c) + 1) m H

theorem Wins.of_eq {w c m : ℕ} {H H' : HeapI} (h : Wins H0 old w c m H) (e : H' .win = H .win) : Wins H0 old w c m H' :=
  ⟨h.1.of_eq e, h.2.1.of_eq e, h.2.2.1.of_eq e, h.2.2.2.of_eq e⟩

/-- 256 columns of the activations over a range. -/
theorem actCols_spec {fst lst : Bool} {n r0 w g : ℕ} (hr : Rows n r0) (hw : w + 3 < 8) (hc : g < 11)
    (hf : fst = true → r0 = 0) (hl : lst = true → r0 + n = 1024) (hh : r0 + n ≤ hn)
    (hw0 : fst = false → Wins H0 old w g (8 + r0) H)
    {done' : ℕ → ℕ → Prop} {kept' : ℕ → Prop}
    (hd : ∀ r, r < 1024 → ∀ j, j < 2816 → done' r j → done r j ∨ ((r0 ≤ r ∧ r < r0 + n) ∧ (256 * g ≤ j ∧ j < 256 * g + 256)))
    (hk : ∀ k, k < 44 → kept' k → kept k ∨ lst = true ∧ (k = 2 * g ∨ k = 2 * g + 1 ∨ k = 2 * (11 + g) ∨ k = 2 * (11 + g) + 1))
    (s : St H0 old hn done kept on H) :
    Triple defs c M H (actCols M hM fst lst n r0 w g hr hw hc) fun _ H' =>
      St H0 old hn done' kept' on H' ∧ Wins H0 old w g (8 + r0 + n) H' := by
  have hle := hr.le
  unfold actCols
  refine Triple.bind (conv_spec hr (by omega) (by omega) hf hl hh (fun h => (hw0 h).1) (fun h => (hw0 h).2.1) s) ?_
  rintro v H1 ⟨s1, e1, x1, x1', v1⟩
  refine Triple.bind (conv_spec hr (by omega) (by omega) hf hl hh
    (fun h => e1 _ _ (by omega) (by omega) (by omega) _ (by omega) (hw0 h).2.2.1)
    (fun h => e1 _ _ (by omega) (by omega) (by omega) _ (by omega) (hw0 h).2.2.2) s1) ?_
  rintro y H2 ⟨s2, e2, x2, x2', v2⟩
  have s3 := s2.mono (done' := done) (kept' := kept') (fun _ _ _ _ h => h) (fun k hk1 h => by
    rcases hk k hk1 h with h | ⟨h, h' | h' | h' | h'⟩
    · exact .inl (.inl h)
    · exact .inl (.inr ⟨h, .inl h'⟩)
    · exact .inl (.inr ⟨h, .inr h'⟩)
    · exact .inr ⟨h, .inl h'⟩
    · exact .inr ⟨h, .inr h'⟩)
  refine ldB (stpE hM ⟨s3.setAct ?_, ?_⟩)
  · intro r hr' j hj hdn
    refine (at2_put _ _ hr' hj).trans ?_
    by_cases h : (r0 ≤ r ∧ r < r0 + n) ∧ (256 * g ≤ j ∧ j < 256 * g + 256)
    · rw [if_pos h, shapeCast_self]
      refine (at2_act _ _ _ (by omega) (by omega)).trans ?_
      rw [v1 _ (by omega) _ (by omega), v2 _ (by omega) _ (by omega), actS, show r0 + (r - r0) = r by omega,
        show 256 * g + (j - 256 * g) = j by omega, show 256 * (11 + g) + (j - 256 * g) = 2816 + j by omega]
    · rw [if_neg h]
      exact s3.act r hr' j hj ((hd r hr' j hj hdn).resolve_right h)
  · refine Wins.of_eq (H := H2) ⟨?_, ?_, x2, x2'⟩ (Function.update_of_ne (by decide) _ _)
    · exact e2 _ _ (by omega) (by omega) (by omega) _ (by omega) x1
    · exact e2 _ _ (by omega) (by omega) (by omega) _ (by omega) x1'

/-- A row of the modulation. -/
theorem mdRow_spec {i : ℕ} (hi : i < 3) (s : St H0 old hn done kept on H) :
    Triple defs c M H (mdRow M i hi) fun v H' => H' = H ∧ ∀ q, q < 1024 → at2 v 0 q = at3 (H0 .md) 0 i q := by
  unfold mdRow
  refine ldB (Triple.ret ⟨rfl, fun q hq => ?_⟩)
  refine (at2_cast32 _ _ Nat.one_pos hq).trans ((at3_window _ _ Nat.one_pos Nat.one_pos hq).trans ?_)
  simp only [Nat.add_zero, Nat.zero_add]
  rw [s.same .md rfl]

/-- The modulated rows of a range. -/
theorem hRows_spec {r0 : ℕ} (hr : Rows 256 r0) {shift scale : FVec Ideal (sh2 1 1024) .f32}
    (h0 : ∀ q, q < 1024 → at2 shift 0 q = at3 (H0 .md) 0 0 q) (h1 : ∀ q, q < 1024 → at2 scale 0 q = at3 (H0 .md) 0 1 q)
    (s : St H0 old r0 done kept on H) :
    Triple defs c M H (hRows M hM r0 hr shift scale) fun _ H' =>
      St H0 old (r0 + 256) done kept on H' ∧ H' .win = H .win := by
  have hle := hr.le
  unfold hRows
  refine ldB (ldB (ldB (stpE hM ⟨s.setH ?_, Function.update_of_ne (by decide) _ _⟩)))
  intro r hr' k hk
  refine (at2_put _ _ (by omega) hk).trans ?_
  by_cases h : r < r0
  · rw [if_neg (by omega)]; exact s.h r h k hk
  · rw [if_pos (by omega), shapeCast_self, Nat.sub_zero]
    refine (at2_h _ _ _ _ _ (by omega) hk).trans ?_
    rw [h0 k hk, h1 k hk, hS]
    refine congrArg₂ (· + ·) (congrArg₂ (· * ·) (congrArg₂ (· * ·) ?_ ?_) rfl) rfl
    · refine rmsF_congr (fun q hq => ?_) hk
      refine (at3_window _ _ Nat.one_pos (by omega) hq).trans ?_
      simp only [Nat.add_zero, Nat.zero_add]
      rw [s.same .x rfl, show r0 + (r - r0) = r by omega]
    · refine (at2_window _ _ Nat.one_pos hk).trans ?_
      simp only [Nat.add_zero, Nat.zero_add]
      rw [s.same .gpre rfl]

/-- The result's rows of a range. -/
theorem outRows_spec {r0 : ℕ} (hr : Rows 256 r0) {gate : FVec Ideal (sh2 1 1024) .f32}
    (h2 : ∀ q, q < 1024 → at2 gate 0 q = at3 (H0 .md) 0 2 q) (hd : ∀ r, r < 1024 → ∀ j, j < 2816 → done r j)
    (s : St H0 old hn done kept r0 H) :
    Triple defs c M H (outRows M r0 hr gate) fun _ H' => St H0 old hn done kept (r0 + 256) H' := by
  have hle := hr.le
  unfold outRows
  refine ldB (ldB (ldB (ldB (ldB (stE (s.setOut ?_))))))
  intro r hr' q hq
  refine (at3_put _ _ Nat.one_pos (by omega) hq).trans ?_
  by_cases h : r < r0
  · rw [if_neg (by omega)]; exact s.out r h q hq
  · rw [if_pos (by omega), Nat.sub_zero, Nat.sub_zero]
    refine (at3_cast23 _ _ (by omega) hq).trans ((at2_out _ _ _ _ _ (by omega) hq).trans ?_)
    rw [h2 q hq, outS]
    refine congrArg₂ (· + ·) ?_ (congrArg₂ (· * ·) rfl (congrArg₂ (· * ·) ?_ ?_))
    · refine (at3_window _ _ Nat.one_pos (by omega) hq).trans ?_
      simp only [Nat.add_zero, Nat.zero_add]
      rw [s.same .x rfl, show r0 + (r - r0) = r by omega]
    · refine rmsF_congr (fun p hp => Finset.sum_congr rfl fun k _ => congrArg₂ (· * ·) ?_ ?_) hq
      · refine (at2_window _ _ (by omega) k.isLt).trans ?_
        rw [Nat.zero_add, show r0 + (r - r0) = r by omega]
        exact s.act r (by omega) k k.isLt (hd r (by omega) k k.isLt)
      · refine (at2_window _ _ k.isLt hp).trans ?_
        simp only [Nat.zero_add]
        rw [s.same .wdn rfl]
    · refine (at2_window _ _ Nat.one_pos hq).trans ?_
      simp only [Nat.add_zero, Nat.zero_add]
      rw [s.same .gpost rfl]

end Cert.Ffn
-- ==== Proof.Ffn.Whole.lean ====
/-
  The whole body's value: its parts one after the other.
-/
module

public import proofs.«01_k».proof.Proof.Ffn.Body

@[expose] public section

noncomputable section

open scoped BigOperators

namespace Cert.Ffn

open Idealize.ShloMosaic Idealize.SL.Sem Cert.Heap

variable {nD : Nat} {τ : Topo} {sig : RefSig} {Λ : Labels}
  {defs : Defs nD τ sig (Elt Ideal) Λ} {c : Dev nD} {M : (k : Slot) → Memref sig .tc .vmem (sh k) (el k)} (hM : ∀ k, (M k).IsWhole)
  {H0 : HeapI} {old : ℕ → ℕ → EReal}

/-- The two conditions of the body's start. -/
theorem startConds : ∀ s : ℕ, s < 4 →
    (Scalar.cmpi .ne ((Scalar.extui (Scalar.cmpi .eq (BitVec.ofNat 32 s) 0#32)) : BitVec 32) 0#32 = 1#1
      ∧ (¬ Scalar.cmpi .ne ((Scalar.extui (Scalar.cmpi .sgt (BitVec.ofNat 32 s) 0#32)) : BitVec 32) 0#32 = 1#1) ∧ s = 0)
    ∨ (¬ Scalar.cmpi .ne ((Scalar.extui (Scalar.cmpi .eq (BitVec.ofNat 32 s) 0#32)) : BitVec 32) 0#32 = 1#1
      ∧ Scalar.cmpi .ne ((Scalar.extui (Scalar.cmpi .sgt (BitVec.ofNat 32 s) 0#32)) : BitVec 32) 0#32 = 1#1 ∧ s ≠ 0) := by
  decide

theorem start_spec {s : ℕ} (hs : s < 4) (h0 : s = 0 → ∀ r c, old r c = 0)
    (h1 : s ≠ 0 → ∀ k, k < 44 → ∀ r, r < 8 → ∀ l, l < 128 → at3 (H0 .hnew) k r l = old r (128 * k + l)) :
    Triple defs c M H0 (start M s) fun _ H' => St H0 old 0 (fun _ _ => False) (fun _ => False) 0 H' := by
  have fin : ∀ X : Vec Ideal (sh .hold) (el .hold),
      (∀ k, k < 44 → ∀ r, r < 8 → ∀ l, l < 128 → at3 X k r l = old r (128 * k + l)) →
      St H0 old 0 (fun _ _ => False) (fun _ => False) 0 (Function.update H0 .hold X) := fun X hX =>
    { same := fun k hk => Function.update_of_ne (by rintro rfl; exact absurd hk (by decide)) _ _
      h := fun r hr => absurd hr (Nat.not_lt_zero r)
      act := fun _ _ _ _ h => h.elim
      prev := by rw [Function.update_self]; exact hX
      keep := fun _ _ h => h.elim
      out := fun r hr => absurd hr (Nat.not_lt_zero r) }
  have key : ∀ H', (∃ X : Vec Ideal (sh .hold) (el .hold),
      (∀ k, k < 44 → ∀ r, r < 8 → ∀ l, l < 128 → at3 X k r l = old r (128 * k + l)) ∧ H' = Function.update H0 .hold X) →
      St H0 old 0 (fun _ _ => False) (fun _ => False) 0 H' := by
    rintro _ ⟨X, hX, rfl⟩
    exact fin X hX
  unfold start
  rcases startConds s hs with ⟨c0, c1, hz⟩ | ⟨c0, c1, hz⟩
  · simp only [dif_pos c0, dif_neg c1]
    refine ldB (Triple.bind (Q' := fun _ H' => St H0 old 0 (fun _ _ => False) (fun _ => False) 0 H')
      (stE (key _ ⟨_, fun k hk r hr l hl => ?_, rfl⟩)) (fun _ _ e => Triple.ret e))
    refine (at3_put _ _ hk hr hl).trans ((if_pos (by omega)).trans ?_)
    rw [h0 hz, shapeCast_self, at3_mk _ (by omega) (by omega) (by omega)]
    exact Ideal.ofBits_zero_f32
  · simp only [dif_neg c0, dif_pos c1]
    refine ldB (ldB (Triple.bind (Q' := fun _ H' => St H0 old 0 (fun _ _ => False) (fun _ => False) 0 H')
      (stE (key _ ⟨_, fun k hk r hr l hl => ?_, rfl⟩)) (fun _ _ e => Triple.ret e)))
    refine (at3_put _ _ hk hr hl).trans ((if_pos (by omega)).trans ?_)
    refine (congrArg (fun v => at3 (a := 44) (b := 8) (c := 128) v (k - 0) (r - 0) (l - 0))
      (shapeCast_self (s := sh3 44 8 128) _ _)).trans ?_
    refine (at3_window _ _ (by omega) (by omega) (by omega)).trans ?_
    simp only [Nat.sub_zero, Nat.zero_add]
    exact h1 hz k hk r hr l hl

/-- After the body at a block: the result's block and the rows kept are the specification's, and the eight inputs are as
they were. -/
structure Done (H0 : HeapI) (old : ℕ → ℕ → EReal) (H : HeapI) : Prop where
  same : ∀ k, isIn k = true → H k = H0 k
  out : ∀ r, r < 1024 → ∀ q, q < 1024 → at3 (H .out) 0 r q = outS H0 old r q
  keep : ∀ k, k < 44 → ∀ r, r < 8 → ∀ l, l < 128 → at3 (H .hnew) k r l = extS H0 old (1024 + r) (128 * k + l)

/-- The state after the groups of columns below `g`. -/
abbrev StCols (H0 : HeapI) (old : ℕ → ℕ → EReal) (g : ℕ) (H : HeapI) : Prop :=
  St H0 old 1024 (fun _ j => j < 256 * g) (fun k => k < 2 * g ∨ (22 ≤ k ∧ k < 22 + 2 * g)) 0 H

/-- One group of columns over all the rows. -/
theorem cols_spec {H : HeapI} {w g : ℕ} (hw : w + 3 < 8) (hg : g < 11) (s : StCols H0 old g H) :
    Triple defs c M H (actCols M hM true true 1024 0 w g rowsAll hw hg) fun _ H' => StCols H0 old (g + 1) H' :=
  (actCols_spec hM rowsAll hw hg (fun _ => rfl) (fun _ => rfl) (le_refl _) (fun h => absurd h (by decide))
    (fun r hr j hj h => by omega) (fun k hk h => (show (k < 2 * g ∨ 22 ≤ k ∧ k < 22 + 2 * g)
      ∨ (k = 2 * g ∨ k = 2 * g + 1 ∨ k = 2 * (11 + g) ∨ k = 2 * (11 + g) + 1) by omega).imp id fun h => ⟨rfl, h⟩) s).mono fun _ _ h => h.1

theorem body_spec {s : ℕ} (hs : s < 4) (h0 : s = 0 → ∀ r c, old r c = 0)
    (h1 : s ≠ 0 → ∀ k, k < 44 → ∀ r, r < 8 → ∀ l, l < 128 → at3 (H0 .hnew) k r l = old r (128 * k + l)) :
    Triple defs c M H0 (body M hM s) fun _ H' => Done H0 old H' := by
  unfold body
  refine Triple.bind (start_spec hs h0 h1) ?_
  rintro - H1 s1
  refine Triple.bind (mdRow_spec (by omega) s1) ?_
  rintro shift _ ⟨rfl, v0⟩
  refine Triple.bind (mdRow_spec (by omega) s1) ?_
  rintro scale _ ⟨rfl, v1⟩
  refine Triple.bind (mdRow_spec (by omega) s1) ?_
  rintro gate _ ⟨rfl, v2⟩
  refine Triple.bind (hRows_spec hM _ v0 v1 s1) ?_
  rintro - H2 ⟨s2, -⟩
  refine Triple.bind (actCols_spec hM (done' := fun r j => r < 256 ∧ j < 256) (kept' := fun _ => False) _ (by omega) (by omega)
    (fun _ => rfl) (fun h => absurd h (by decide)) (by omega) (fun h => absurd h (by decide))
    (fun r hr j hj h => by omega) (fun k hk h => h.elim) s2) ?_
  rintro - H3 ⟨s3, x3⟩
  refine Triple.bind (hRows_spec hM _ v0 v1 s3) ?_
  rintro - H4 ⟨s4, e4⟩
  refine Triple.bind (actCols_spec hM (done' := fun r j => r < 512 ∧ j < 256) (kept' := fun _ => False) _ (by omega) (by omega)
    (fun h => absurd h (by decide)) (fun h => absurd h (by decide)) (by omega) (fun _ => x3.of_eq e4)
    (fun r hr j hj h => by omega) (fun k hk h => h.elim) s4) ?_
  rintro - H5 ⟨s5, x5⟩
  refine Triple.bind (hRows_spec hM _ v0 v1 s5) ?_
  rintro - H6 ⟨s6, e6⟩
  refine Triple.bind (actCols_spec hM (done' := fun r j => r < 768 ∧ j < 256) (kept' := fun _ => False) _ (by omega) (by omega)
    (fun h => absurd h (by decide)) (fun h => absurd h (by decide)) (by omega) (fun _ => x5.of_eq e6)
    (fun r hr j hj h => by omega) (fun k hk h => h.elim) s6) ?_
  rintro - H7 ⟨s7, x7⟩
  refine Triple.bind (hRows_spec hM _ v0 v1 s7) ?_
  rintro - H8 ⟨s8, e8⟩
  refine Triple.bind (Q' := fun _ H' => StCols H0 old 1 H') ((actCols_spec hM _ (by omega) (by omega)
    (fun h => absurd h (by decide)) (fun _ => rfl) (by omega) (fun _ => x7.of_eq e8)
    (fun r hr j hj h => by omega) (fun k hk h => .inr ⟨rfl, by omega⟩) s8).mono fun _ _ h => h.1) ?_
  rintro - H9 s9
  refine Triple.bind (cols_spec hM _ _ s9) ?_; rintro - K2 t2
  refine Triple.bind (cols_spec hM _ _ t2) ?_; rintro - K3 t3
  refine Triple.bind (cols_spec hM _ _ t3) ?_; rintro - K4 t4
  refine Triple.bind (cols_spec hM _ _ t4) ?_; rintro - K5 t5
  refine Triple.bind (cols_spec hM _ _ t5) ?_; rintro - K6 t6
  refine Triple.bind (cols_spec hM _ _ t6) ?_; rintro - K7 t7
  refine Triple.bind (cols_spec hM _ _ t7) ?_; rintro - K8 t8
  refine Triple.bind (cols_spec hM _ _ t8) ?_; rintro - K9 t9
  refine Triple.bind (cols_spec hM _ _ t9) ?_; rintro - K10 t10
  refine Triple.bind (cols_spec hM _ _ t10) ?_; rintro - K11 t11
  refine Triple.bind (outRows_spec _ v2 (fun r hr j hj => by omega) t11) ?_; rintro - O1 o1
  refine Triple.bind (outRows_spec _ v2 (fun r hr j hj => by omega) o1) ?_; rintro - O2 o2
  refine Triple.bind (outRows_spec _ v2 (fun r hr j hj => by omega) o2) ?_; rintro - O3 o3
  refine (outRows_spec _ v2 (fun r hr j hj => by omega) o3).mono fun _ H' o4 => ⟨o4.same, o4.out, fun k hk => o4.keep k hk (by omega)⟩

end Cert.Ffn
-- ==== Proof.Ffn.Run.lean ====
/-
  The feed-forward call's run. Point `t` of the grid handles one block of rows; what it leaves in the result's staging
  buffer is the specification's rows at the point's input blocks, and it keeps its last eight up-projected rows for the
  next point of the same sequence. The pipeline's run follows with this as what the body leaves.
-/
module

public import proofs.«01_k».proof.Proof.Ffn.Match
public import proofs.«01_k».proof.Proof.Ffn.Whole
public import proofs.«01_k».proof.Proof.Gen.Kernel2Ideal.Value

@[expose] public section

set_option maxRecDepth 16384

noncomputable section

namespace Cert.Ffn

open Cert.Heap
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-- A vector of three axes from its entries. -/
def mk3 (a b c : ℕ) (f : ℕ → ℕ → ℕ → EReal) : (sh3 a b c).Idx → EReal := fun i => f (i 0).val (i 1).val (i 2).val

theorem eq_mk3 {a b c : ℕ} {v : (sh3 a b c).Idx → EReal} {f : ℕ → ℕ → ℕ → EReal}
    (h : ∀ i, i < a → ∀ j, j < b → ∀ k, k < c → at3 v i j k = f i j k) : v = mk3 a b c f := by
  funext x
  have e : x = ValueIdx.ix3 (x 0) (x 1) (x 2) := ValueIdx.eq_ix3 x
  exact ((congrArg v e).trans (at3_mk v (x 0).isLt (x 1).isLt (x 2).isLt).symm).trans
    (h (x 0).val (x 0).isLt (x 1).val (x 1).isLt (x 2).val (x 2).isLt)

section

variable {nD : Nat} {τ : Topo} {sig : RefSig} {Λ : Labels} {defs : Defs nD τ sig (Elt Ideal) Λ} {c : Dev nD}

/-- The slots one by one. -/
theorem ownsAll_eq (M : (k : Slot) → Memref sig .tc .vmem (sh k) (el k)) (H : HeapI) :
    ownsAll c M H = (iprop(owns (c : Thread nD τ) (M .x) fullShare (H .x) ∗ owns (c : Thread nD τ) (M .md) fullShare (H .md)
      ∗ owns (c : Thread nD τ) (M .gpre) fullShare (H .gpre) ∗ owns (c : Thread nD τ) (M .gpost) fullShare (H .gpost)
      ∗ owns (c : Thread nD τ) (M .wup) fullShare (H .wup) ∗ owns (c : Thread nD τ) (M .wdw) fullShare (H .wdw)
      ∗ owns (c : Thread nD τ) (M .bdw) fullShare (H .bdw) ∗ owns (c : Thread nD τ) (M .wdn) fullShare (H .wdn)
      ∗ owns (c : Thread nD τ) (M .out) fullShare (H .out) ∗ owns (c : Thread nD τ) (M .h) fullShare (H .h)
      ∗ owns (c : Thread nD τ) (M .act) fullShare (H .act) ∗ owns (c : Thread nD τ) (M .win) fullShare (H .win)
      ∗ owns (c : Thread nD τ) (M .hold) fullShare (H .hold) ∗ owns (c : Thread nD τ) (M .hnew) fullShare (H .hnew))
      : sProp (Mod nD τ sig Ideal)) :=
  bigSep_univ_eq_bigSepL [Slot.x, .md, .gpre, .gpost, .wup, .wdw, .bdw, .wdn, .out, .h, .act, .win, .hold, .hnew]
    (by decide) (by decide) _

end

variable (m : (ℓ : Loc nD τ sig) → Buf (Elt Ideal) ℓ) (ρ : Dev nD → PrngReg)

/-- The input blocks of a point, as a heap. -/
def inp (c : Dev nD) (t : Fin cfg0.N) : HeapI
  | .x => iblk m c 0 t | .md => iblk m c 1 t | .gpre => iblk m c 2 t | .gpost => iblk m c 3 t
  | .wup => iblk m c 4 t | .wdw => iblk m c 5 t | .bdw => iblk m c 6 t | .wdn => iblk m c 7 t
  | .out => fun _ => (0 : EReal) | .h => fun _ => (0 : EReal) | .act => fun _ => (0 : EReal) | .win => fun _ => (0 : EReal)
  | .hold => fun _ => (0 : EReal) | .hnew => fun _ => (0 : EReal)

/-- The point before. -/
def prevPt (t : Fin cfg0.N) : Fin cfg0.N := ⟨t.val - 1, Nat.lt_of_le_of_lt (Nat.sub_le _ _) t.isLt⟩

/-- The last eight up-projected rows of a point. -/
def lastRows (c : Dev nD) (t : Fin cfg0.N) (r col : ℕ) : EReal := upS (inp m c t) (1016 + r) col

/-- The eight rows before a point's block: zeros at a sequence's start. -/
def oldRows (c : Dev nD) (t : Fin cfg0.N) (r col : ℕ) : EReal := if t.val % 4 = 0 then 0 else lastRows m c (prevPt t) r col

/-- What a point leaves in the result's staging buffer. -/
def outBlk (c : Dev nD) (t : Fin cfg0.N) : Vec Ideal (sh3 1 1024 1024) .f32 :=
  mk3 1 1024 1024 fun _ r q => outS (inp m c t) (oldRows m c t) r q

/-- The carried scratch after a point. -/
def Kept (c : Dev nD) (t : Fin cfg0.N) (d : Vec Ideal (sh3 44 8 128) .f32) : Prop :=
  ∀ k, k < 44 → ∀ r, r < 8 → ∀ l, l < 128 → at3 d k r l = lastRows m c t r (128 * k + l)

theorem hS_congr {H H' : HeapI} (h : ∀ k, isIn k = true → H k = H' k) (r k : ℕ) : hS H r k = hS H' r k := by
  unfold hS; rw [h .x rfl, h .gpre rfl, h .md rfl]

theorem upS_congr {H H' : HeapI} (h : ∀ k, isIn k = true → H k = H' k) (r k : ℕ) : upS H r k = upS H' r k := by
  unfold upS; rw [h .wup rfl]; simp only [hS_congr h]

theorem extS_congr {H H' : HeapI} (h : ∀ k, isIn k = true → H k = H' k) (old : ℕ → ℕ → EReal) (r k : ℕ) :
    extS H old r k = extS H' old r k := by
  unfold extS; rw [upS_congr h]

theorem convS_congr {H H' : HeapI} (h : ∀ k, isIn k = true → H k = H' k) (old : ℕ → ℕ → EReal) (r k : ℕ) :
    convS H old r k = convS H' old r k := by
  unfold convS; rw [h .bdw rfl, h .wdw rfl]; simp only [extS_congr h]

theorem outS_congr {H H' : HeapI} (h : ∀ k, isIn k = true → H k = H' k) (old : ℕ → ℕ → EReal) (r q : ℕ) :
    outS H old r q = outS H' old r q := by
  unfold outS actS; rw [h .x rfl, h .md rfl, h .wdn rfl, h .gpost rfl]; simp only [convS_congr h]

/-- Before the first point what the launch hands; after point `n` the scratch, the carried one with the kept rows. -/
def PhiV (c : Dev nD) : (n : ℕ) → n ≤ cfg0.N → sProp (Mod nD τ sig Ideal)
  | 0, _ => Pipeline.ΦA spec0 c
  | n + 1, hn => iprop(iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ (∃ d, ⌜Kept m c ⟨n, hn⟩ d⌝ ∗ owns (c : Thread nD τ) scM0_4 fullShare d)) ∗ (∃ r, prngReg c r))

theorem PhiV_succ (c : Dev nD) (n : ℕ) (hn : n < cfg0.N) :
    PhiV m c (n + 1) hn = iprop(iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ (∃ d, ⌜Kept m c ⟨n, hn⟩ d⌝ ∗ owns (c : Thread nD τ) scM0_4 fullShare d)) ∗ (∃ r, prngReg c r)) := rfl

/-- Before any point: the scratch, the carried one with the rows of the point before if there is one. -/
theorem PhiV_pre (c : Dev nD) (t : Fin cfg0.N) (n : ℕ) (hn : n ≤ cfg0.N) (e : n = t.val) :
    PhiV m c n hn ⊢ iprop(iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ (∃ d, ⌜t.val ≠ 0 → Kept m c (prevPt t) d⌝ ∗ owns (c : Thread nD τ) scM0_4 fullShare d)) ∗ (∃ r, prngReg c r)) := by
  match n, hn, e with
  | 0, _, e =>
    rw [show PhiV m c 0 _ = Pipeline.ΦA spec0 c from rfl, PhiA0_eq]
    iintro ⟨⟨HS0, HS1, HS2, HS3, ⟨%d, HS4⟩⟩, Hg⟩
    isplitl [HS0 HS1 HS2 HS3 HS4]
    · isplitl [HS0]; · iexact HS0
      isplitl [HS1]; · iexact HS1
      isplitl [HS2]; · iexact HS2
      isplitl [HS3]; · iexact HS3
      iexists d
      isplitr [HS4]
      · ipureintro; exact fun h => absurd e.symm h
      · iexact HS4
    · iexact Hg
  | n + 1, hn, e =>
    have ep : (⟨n, hn⟩ : Fin cfg0.N) = prevPt t := Fin.ext (show n = t.val - 1 by omega)
    rw [PhiV_succ, ep]
    iintro ⟨⟨HS0, HS1, HS2, HS3, ⟨%d, %hd, HS4⟩⟩, Hg⟩
    isplitl [HS0 HS1 HS2 HS3 HS4]
    · isplitl [HS0]; · iexact HS0
      isplitl [HS1]; · iexact HS1
      isplitl [HS2]; · iexact HS2
      isplitl [HS3]; · iexact HS3
      iexists d
      isplitr [HS4]
      · ipureintro; exact fun _ => hd
      · iexact HS4
    · iexact Hg

/-- The proof data: the arrays as the region finds them, the inputs' blocks left in place, the result's block. -/
def dat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := PhiV m c t.val (Nat.le_of_lt_succ t.isLt)
  q _ := fullShare
  owed _ := 0

theorem dat_A (c : Dev nD) (w : Fin cfg0.W) : (dat m 0 c).A w = V m c (Pipeline.arrRef spec0 w) := by
  dsimp only [dat]

theorem dat_before0 (c : Dev nD) (t : Fin cfg0.N) (d) : (dat m 0 c).before 0 t d = iblk m c 0 t :=
  before0_0_of m (dat m 0 c) (dat_A m c 0) (fun t => by dsimp only [dat]) t d
theorem dat_before1 (c : Dev nD) (t : Fin cfg0.N) (d) : (dat m 0 c).before 1 t d = iblk m c 1 t :=
  before0_1_of m (dat m 0 c) (dat_A m c 1) (fun t => by dsimp only [dat]) t d
theorem dat_before2 (c : Dev nD) (t : Fin cfg0.N) (d) : (dat m 0 c).before 2 t d = iblk m c 2 t :=
  before0_2_of m (dat m 0 c) (dat_A m c 2) (fun t => by dsimp only [dat]) t d
theorem dat_before3 (c : Dev nD) (t : Fin cfg0.N) (d) : (dat m 0 c).before 3 t d = iblk m c 3 t :=
  before0_3_of m (dat m 0 c) (dat_A m c 3) (fun t => by dsimp only [dat]) t d
theorem dat_before4 (c : Dev nD) (t : Fin cfg0.N) (d) : (dat m 0 c).before 4 t d = iblk m c 4 t :=
  before0_4_of m (dat m 0 c) (dat_A m c 4) (fun t => by dsimp only [dat]) t d
theorem dat_before5 (c : Dev nD) (t : Fin cfg0.N) (d) : (dat m 0 c).before 5 t d = iblk m c 5 t :=
  before0_5_of m (dat m 0 c) (dat_A m c 5) (fun t => by dsimp only [dat]) t d
theorem dat_before6 (c : Dev nD) (t : Fin cfg0.N) (d) : (dat m 0 c).before 6 t d = iblk m c 6 t :=
  before0_6_of m (dat m 0 c) (dat_A m c 6) (fun t => by dsimp only [dat]) t d
theorem dat_before7 (c : Dev nD) (t : Fin cfg0.N) (d) : (dat m 0 c).before 7 t d = iblk m c 7 t :=
  before0_7_of m (dat m 0 c) (dat_A m c 7) (fun t => by dsimp only [dat]) t d

/-- The slots at a point. -/
abbrev MAt (t : Fin cfg0.N) : (k : Slot) → Memref sig .tc .vmem (sh k) (el k) :=
  slots (ms0_0 t) (ms0_1 t) (ms0_2 t) (ms0_3 t) (ms0_4 t) (ms0_5 t) (ms0_6 t) (ms0_7 t) (ms0_8 t) scM0_0 scM0_1 scM0_2 scM0_3 scM0_4

/-- The heap a point's body starts from. -/
def heapAt (c : Dev nD) (t : Fin cfg0.N) (o : Vec Ideal (sh3 1 1024 1024) .f32) (s0 : Vec Ideal (sh .h) (el .h))
    (s1 : Vec Ideal (sh .act) (el .act)) (s2 : Vec Ideal (sh .win) (el .win)) (s3 : Vec Ideal (sh .hold) (el .hold))
    (s4 : Vec Ideal (sh .hnew) (el .hnew)) : HeapI
  | .x => iblk m c 0 t | .md => iblk m c 1 t | .gpre => iblk m c 2 t | .gpost => iblk m c 3 t
  | .wup => iblk m c 4 t | .wdw => iblk m c 5 t | .bdw => iblk m c 6 t | .wdn => iblk m c 7 t
  | .out => o | .h => s0 | .act => s1 | .win => s2 | .hold => s3 | .hnew => s4

theorem heapAt_in (c : Dev nD) (t : Fin cfg0.N) (o s0 s1 s2 s3 s4) (k : Slot) (hk : isIn k = true) :
    heapAt m c t o s0 s1 s2 s3 s4 k = inp m c t k := by
  cases k <;> first | rfl | exact absurd hk (by decide)

/-- The second coordinate of a point. -/
theorem coord1 (t : Fin cfg0.N) : (grid0.coords t 1).val = t.val % 4 := by
  have e1 : (grid0.coords t 1).val = t.val / 1 % 4 := Pipeline.Grid.coords_val t 1 (by decide) rfl
  rw [e1, Nat.div_one]

end Cert.Ffn

end
-- ==== Proof.Ffn.Point.lean ====
/-
  The feed-forward call's body at every point of the grid, and the pipeline's run that follows from it.
-/
module

public import proofs.«01_k».proof.Proof.Ffn.Run

@[expose] public section

set_option maxRecDepth 16384

noncomputable section

namespace Cert.Ffn

open Cert.Heap
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable (m : (ℓ : Loc nD τ sig) → Buf (Elt Ideal) ℓ) (ρ : Dev nD → PrngReg)

theorem MAt_whole (t : Fin cfg0.N) : ∀ k, (MAt t k).IsWhole
  | .x => hs0_0 t | .md => hs0_1 t | .gpre => hs0_2 t | .gpost => hs0_3 t | .wup => hs0_4 t | .wdw => hs0_5 t
  | .bdw => hs0_6 t | .wdn => hs0_7 t | .out => hs0_8 t | .h => Memref.isWhole_whole _ | .act => Memref.isWhole_whole _
  | .win => Memref.isWhole_whole _ | .hold => Memref.isWhole_whole _ | .hnew => Memref.isWhole_whole _

/-- The body at a point leaves the specification's values. -/
theorem point_spec (c : Dev nD) (t : Fin cfg0.N) (o s0 s1 s2 s3) (s4 : Vec Ideal (sh3 44 8 128) .f32)
    (h4 : t.val ≠ 0 → Kept m c (prevPt t) s4) :
    Triple (defs₀ (F := Ideal)) c (MAt t) (heapAt m c t o s0 s1 s2 s3 s4) (bodyAt0 (F := Ideal) t) fun _ H' =>
      (∀ k, isIn k = true → H' k = inp m c t k) ∧ H' .out = outBlk m c t ∧ Kept m c t (H' .hnew) := by
  have eb : bodyAt0 (F := Ideal) t = body (MAt t) (MAt_whole t) (grid0.coords t 1).val :=
    body_eq (F := Ideal) (grid0.coords t) _ _ _ _ _ _ _ _ _ _ _ _ _ _ _ _ _ _ _ _ _ _ _ _ _ _ _ _ (MAt_whole t)
  rw [eb]
  have ec := coord1 t
  refine (body_spec (old := oldRows m c t) (MAt_whole t) (by omega) (fun h r col => ?_) (fun h k hk r hr l hl => ?_)).mono fun _ H' d => ?_
  · exact if_pos (by omega)
  · exact (h4 (by rintro e; omega) k hk r hr l hl).trans (if_neg (by omega)).symm
  · have same := heapAt_in m c t o s0 s1 s2 s3 s4
    refine ⟨fun k hk => (d.same k hk).trans (same k hk), eq_mk3 fun i hi r hr q hq => ?_, fun k hk r hr l hl => ?_⟩
    · obtain rfl : i = 0 := by omega
      exact (d.out r hr q hq).trans (outS_congr same _ _ _)
    · refine (d.keep k hk r hr l hl).trans ((if_neg (by omega)).trans ?_)
      rw [show 1024 + r - 8 = 1016 + r by omega]
      exact upS_congr same _ _

/-- What the body is called with at a point, -/
def pre (c : Dev nD) (t : Fin cfg0.N) : sProp (Mod nD τ sig Ideal) :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d)))

/-- and what it returns. -/
def post (c : Dev nD) (t : Fin cfg0.N) : sProp (Mod nD τ sig Ideal) :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t)
    ∗ owns (c : Thread nD τ) (ms0_8 t) fullShare ((dat m 0 c).after 8 t))

/-- The slots of a point one by one, at the heap its body starts from. -/
theorem owns_pre (c : Dev nD) (t : Fin cfg0.N) (o s0 s1 s2 s3 s4) :
    (iprop(owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare (iblk m c 5 t)
      ∗ owns (c : Thread nD τ) (ms0_6 t) fullShare (iblk m c 6 t) ∗ owns (c : Thread nD τ) (ms0_7 t) fullShare (iblk m c 7 t)
      ∗ owns (c : Thread nD τ) (ms0_8 t) fullShare o ∗ owns (c : Thread nD τ) scM0_0 fullShare s0
      ∗ owns (c : Thread nD τ) scM0_1 fullShare s1 ∗ owns (c : Thread nD τ) scM0_2 fullShare s2
      ∗ owns (c : Thread nD τ) scM0_3 fullShare s3 ∗ owns (c : Thread nD τ) scM0_4 fullShare s4) : sProp (Mod nD τ sig Ideal))
      ⊢ ownsAll c (MAt t) (heapAt m c t o s0 s1 s2 s3 s4) :=
  Entails.of_eq (ownsAll_eq (c := c) (MAt t) (heapAt m c t o s0 s1 s2 s3 s4)).symm

/-- The slots of a point one by one, at a heap with the inputs' blocks and the result's. -/
theorem owns_post (c : Dev nD) (t : Fin cfg0.N) (H : HeapI) (hi : ∀ k, isIn k = true → H k = inp m c t k) (ho : H .out = outBlk m c t) :
    ownsAll c (MAt t) H ⊢
    (iprop(owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare (iblk m c 5 t)
      ∗ owns (c : Thread nD τ) (ms0_6 t) fullShare (iblk m c 6 t) ∗ owns (c : Thread nD τ) (ms0_7 t) fullShare (iblk m c 7 t)
      ∗ owns (c : Thread nD τ) (ms0_8 t) fullShare (outBlk m c t) ∗ owns (c : Thread nD τ) scM0_0 fullShare (H .h)
      ∗ owns (c : Thread nD τ) scM0_1 fullShare (H .act) ∗ owns (c : Thread nD τ) scM0_2 fullShare (H .win)
      ∗ owns (c : Thread nD τ) scM0_3 fullShare (H .hold) ∗ owns (c : Thread nD τ) scM0_4 fullShare (H .hnew)) : sProp (Mod nD τ sig Ideal)) := by
  rw [ownsAll_eq, hi .x rfl, hi .md rfl, hi .gpre rfl, hi .gpost rfl, hi .wup rfl, hi .wdw rfl, hi .bdw rfl, hi .wdn rfl, ho]
  exact .rfl

set_option maxHeartbeats 2000000 in
theorem body_at (c : Dev nD) (t : Fin cfg0.N) :
    pre m c t ⊢ wp frame (wpE (defs₀ (F := Ideal)) Variants.none c none) Set.univ (bodyAt0 t) (fun _ => post m c t) := by
  unfold pre post
  simp only [dat_before0, dat_before1, dat_before2, dat_before3, dat_before4, dat_before5, dat_before6, dat_before7]
  rw [show (dat m 0 c).owesAt () t.succ = (dat m 0 c).owesAt () t.castSucc from rfl,
    show (dat m 0 c).after 0 t = iblk m c 0 t from rfl, show (dat m 0 c).after 1 t = iblk m c 1 t from rfl,
    show (dat m 0 c).after 2 t = iblk m c 2 t from rfl, show (dat m 0 c).after 3 t = iblk m c 3 t from rfl,
    show (dat m 0 c).after 4 t = iblk m c 4 t from rfl, show (dat m 0 c).after 5 t = iblk m c 5 t from rfl,
    show (dat m 0 c).after 6 t = iblk m c 6 t from rfl, show (dat m 0 c).after 7 t = iblk m c 7 t from rfl,
    show (dat m 0 c).after 8 t = outBlk m c t from rfl,
    show (dat m 0 c).Φ t.succ = PhiV m c (t.val + 1) t.isLt from rfl, PhiV_succ,
    show (dat m 0 c).Φ t.castSucc = PhiV m c t.val (Nat.le_of_lt t.isLt) from rfl]
  refine .trans (sep_mono (PhiV_pre m c t _ _ rfl) .rfl) ?_
  iintro ⟨⟨⟨⟨%s0, HS0⟩, ⟨%s1, HS1⟩, ⟨%s2, HS2⟩, ⟨%s3, HS3⟩, ⟨%s4, %h4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Triple.run (point_spec m c t ((dat m 0 c).before 8 t d8) s0 s1 s2 s3 s4 h4) Set.univ _)
  isplitl [H0 H1 H2 H3 H4 H5 H6 H7 H8 HS0 HS1 HS2 HS3 HS4]
  · iapply (owns_pre m c t ((dat m 0 c).before 8 t d8) s0 s1 s2 s3 s4)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iintro %a %H' %hq HH
  ihave ⟨H0, H1, H2, H3, H4, H5, H6, H7, H8, HS0, HS1, HS2, HS3, HS4⟩ := (owns_post m c t H' hq.1 hq.2.1) $$ HH
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _
      isplitr [HS4]
      · ipureintro; exact hq.2.2
      · iexact HS4
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation (c : Dev nD) : BodyObligation (dat m 0 c) (defs₀ (F := Ideal)) Variants.none () Set.univ := fun t => by
  rw [bigSep_W0, bigSep_W0, defs₀_row]
  exact triple_restated (body_at m c t) rfl .rfl fun _ => .rfl

theorem phi_in (c : Dev nD) : Pipeline.ΦA spec0 c ⊢ (dat m 0 c).Φ 0 := .rfl

theorem phi_out (c : Dev nD) : (dat m 0 c).Φ (Fin.last cfg0.N) ⊢ Pipeline.ΦA spec0 c := by
  have hN : cfg0.N = 31 + 1 := N_0
  rw [show (dat m 0 c).Φ (Fin.last cfg0.N) = PhiV m c cfg0.N (le_refl _) from rfl, PhiA0_eq]
  have e : ∀ (n : ℕ) (h : n ≤ cfg0.N), n = 31 + 1 → PhiV m c n h ⊢ iprop(iprop((∃ d, owns (c : Thread nD τ) scM0_0 fullShare d)
      ∗ (∃ d, owns (c : Thread nD τ) scM0_1 fullShare d) ∗ (∃ d, owns (c : Thread nD τ) scM0_2 fullShare d)
      ∗ (∃ d, owns (c : Thread nD τ) scM0_3 fullShare d) ∗ (∃ d, owns (c : Thread nD τ) scM0_4 fullShare d)) ∗ (∃ r, prngReg c r)) := by
    rintro n h rfl
    rw [PhiV_succ]
    iintro ⟨⟨HS0, HS1, HS2, HS3, ⟨%d, -, HS4⟩⟩, Hg⟩
    isplitl [HS0 HS1 HS2 HS3 HS4]
    · isplitl [HS0]; · iexact HS0
      isplitl [HS1]; · iexact HS1
      isplitl [HS2]; · iexact HS2
      isplitl [HS3]; · iexact HS3
      iexists _; iexact HS4
    iexact Hg
  exact e _ _ hN

set_option backward.isDefEq.respectTransparency.types false in
/-- The run: every array of the pipeline ends at what the proof data says. -/
theorem run : θ_run defs (onTc (τ := τ) (main (F := Ideal))) (s₀ m ρ) (fun r => Pipeline.FramePost cfgs (dat m) 0 (V m) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hin := phi_in m) (hout := phi_out m)

/-- Block `t` of the result is what point `t` leaves. -/
theorem block (c : Dev nD) (t : Fin cfg0.N) :
    ((cfg0.win 8).blk t).view.read (Elt Ideal) ((dat m 0 c).arrAt 8 cfg0.N) = (cfg0.win 8).cut (grid0.coords t) (outBlk m c t) :=
  (dat m 0 c).read_blk_arrAt_eq_flushed 8 Cert.Kernel2Ideal.Value.disjoint8 cfg0.N t t.isLt (flush0_8 t)

end Cert.Ffn

end
-- ==== Proof.Ffn.Global.lean ====
/-
  The feed-forward part over whole arrays, at natural numbers and over the extended reals: the common form that the
  kernel's blocks and the reference's arrays are both compared with. The kernel's blocks give it block by block.
-/
module

public import proofs.«01_k».proof.Proof.Ffn.Spec

@[expose] public section

noncomputable section

open scoped BigOperators

namespace Cert.Ffn

open Idealize.ShloMosaic

/-- The arguments at natural numbers: the rows, the modulation, the two gains, the up projection, the taps and their
bias, and the down projection. -/
structure Args where
  x : ℕ → ℕ → ℕ → EReal
  md : ℕ → ℕ → EReal
  gpre : ℕ → EReal
  gpost : ℕ → EReal
  wup : ℕ → ℕ → EReal
  wdw : ℕ → ℕ → EReal
  bdw : ℕ → EReal
  wdn : ℕ → ℕ → EReal

/-- The arguments' arrays at natural numbers. -/
def argsOf (x : (sh3 8 4096 1024).Idx → EReal) (md : (sh2 8 6144).Idx → EReal) (gpre gpost : (sh1 1024).Idx → EReal)
    (wup : (sh2 1024 5632).Idx → EReal) (wdw : (sh2 3 5632).Idx → EReal) (bdw : (sh1 5632).Idx → EReal)
    (wdn : (sh2 2816 1024).Idx → EReal) : Args :=
  { x := at3 x, md := at2 md, gpre := at1 gpre, gpost := at1 gpost, wup := at2 wup, wdw := at2 wdw, bdw := at1 bdw
    wdn := at2 wdn }

namespace Args

variable (A : Args)

/-- The modulated rows. -/
def h (b r k : ℕ) : EReal :=
  rmsF (A.x b r) k * A.gpre k * (num 0x3F800000#32 + A.md b (4096 + k)) + A.md b (3072 + k)

/-- The up projection. -/
def up (b r c : ℕ) : EReal := ∑ k : Fin 1024, A.h b r k * A.wup k c

/-- The up projection with two rows of zeros in front of every sequence. -/
def pad (b e c : ℕ) : EReal := if e < 2 then 0 else A.up b (e - 2) c

/-- The causal convolution. -/
def conv (b r c : ℕ) : EReal :=
  A.wdw 0 c * A.pad b r c + A.wdw 1 c * A.pad b (1 + r) c + A.wdw 2 c * A.pad b (2 + r) c + A.bdw c

/-- The gated activations. -/
def act (b r j : ℕ) : EReal := geluF (A.conv b r (2816 + j)) * A.conv b r j

/-- The down projection. -/
def down (b r q : ℕ) : EReal := ∑ k : Fin 2816, A.act b r k * A.wdn k q

/-- The result. -/
def out (b r q : ℕ) : EReal := A.x b r q + A.md b (5120 + q) * (rmsF (A.down b r) q * A.gpost q)

end Args

/-- A heap's input slots hold the arguments' block `s` of sequence `b`. -/
structure Blk (A : Args) (b s : ℕ) (H : HeapI) : Prop where
  x : ∀ r, r < 1024 → ∀ q, q < 1024 → at3 (H .x) 0 r q = A.x b (1024 * s + r) q
  md : ∀ j, j < 3 → ∀ k, k < 1024 → at3 (H .md) 0 j k = A.md b (3072 + 1024 * j + k)
  gpre : ∀ k, k < 1024 → at2 (H .gpre) 0 k = A.gpre k
  gpost : ∀ k, k < 1024 → at2 (H .gpost) 0 k = A.gpost k
  wup : ∀ k, k < 1024 → ∀ c, c < 5632 → at2 (H .wup) k c = A.wup k c
  wdw : ∀ k, k < 3 → ∀ c, c < 5632 → at2 (H .wdw) k c = A.wdw k c
  bdw : ∀ c, c < 5632 → at2 (H .bdw) 0 c = A.bdw c
  wdn : ∀ k, k < 2816 → ∀ c, c < 1024 → at2 (H .wdn) k c = A.wdn k c

variable {A : Args} {b s : ℕ} {H : HeapI} {old : ℕ → ℕ → EReal}

theorem hS_eq (B : Blk A b s H) {r k : ℕ} (hr : r < 1024) (hk : k < 1024) : hS H r k = A.h b (1024 * s + r) k := by
  unfold hS Args.h
  rw [rmsF_congr (fun q hq => B.x r hr q hq) hk, B.gpre k hk, B.md 1 (by omega) k hk, B.md 0 (by omega) k hk]

theorem upS_eq (B : Blk A b s H) {r c : ℕ} (hr : r < 1024) (hc : c < 5632) : upS H r c = A.up b (1024 * s + r) c :=
  Finset.sum_congr rfl fun k _ => by rw [hS_eq B hr k.isLt, B.wup k k.isLt c hc]

/-- The rows with the eight before the block in front are the padded ones, if the eight are. -/
theorem extS_eq (B : Blk A b s H) (ho : ∀ r, 6 ≤ r → r < 8 → ∀ c, c < 5632 → old r c = A.pad b (1024 * s + r - 6) c) {e c : ℕ}
    (h6 : 6 ≤ e) (he : e < 1032) (hc : c < 5632) : extS H old e c = A.pad b (1024 * s + (e - 6)) c := by
  unfold extS
  by_cases h : e < 8
  · rw [if_pos h, ho e h6 h c hc]; congr 1; omega
  · rw [if_neg h, upS_eq B (by omega) hc, Args.pad, if_neg (by omega)]
    congr 1; omega

theorem convS_eq (B : Blk A b s H) (ho : ∀ r, 6 ≤ r → r < 8 → ∀ c, c < 5632 → old r c = A.pad b (1024 * s + r - 6) c) {r c : ℕ}
    (hr : r < 1024) (hc : c < 5632) : convS H old r c = A.conv b (1024 * s + r) c := by
  unfold convS Args.conv
  rw [extS_eq B ho (by omega) (by omega) hc, extS_eq B ho (by omega) (by omega) hc, extS_eq B ho (by omega) (by omega) hc,
    B.bdw c hc, B.wdw 0 (by omega) c hc, B.wdw 1 (by omega) c hc, B.wdw 2 (by omega) c hc,
    show 1024 * s + (8 + r - 6) = 2 + (1024 * s + r) by omega, show 1024 * s + (6 + r - 6) = 1024 * s + r by omega,
    show 1024 * s + (7 + r - 6) = 1 + (1024 * s + r) by omega]
  simp only [add_assoc, add_comm, add_left_comm]

/-- A block's result rows are the result's. -/
theorem outS_eq (B : Blk A b s H) (ho : ∀ r, 6 ≤ r → r < 8 → ∀ c, c < 5632 → old r c = A.pad b (1024 * s + r - 6) c) {r q : ℕ}
    (hr : r < 1024) (hq : q < 1024) : outS H old r q = A.out b (1024 * s + r) q := by
  unfold outS Args.out
  rw [B.x r hr q hq, B.md 2 (by omega) q hq, B.gpost q hq]
  congr 3
  refine rmsF_congr (fun p hp => Finset.sum_congr rfl fun k _ => ?_) hq
  have hk := k.isLt
  rw [B.wdn k hk p hp, actS, Args.act, convS_eq B ho hr (by omega), convS_eq B ho hr (by omega)]

end Cert.Ffn

end
-- ==== Proof.Ffn.Names.lean ====
/-
  A vector's entry at bounded coordinates is its entry at their numbers.
-/
module

public import proofs.«01_k».proof.Proof.Ffn.Index
public import Idealize.ShloMosaic.Lib.Pointwise

@[expose] public section

noncomputable section

namespace Cert.Ffn

open Idealize.ShloMosaic

theorem at1_fin {a : ℕ} (v : (sh1 a).Idx → EReal) (i : Fin a) : v (ix1 i) = at1 v i :=
  (congrArg v (funext fun x => by match x with | ⟨0, _⟩ => rfl)).trans (at1_mk v i.isLt).symm

theorem at2_fin {a b : ℕ} (v : (sh2 a b).Idx → EReal) (i : Fin a) (j : Fin b) : v (ix2 i j) = at2 v i j :=
  (congrArg v (funext fun x => by match x with | ⟨0, _⟩ => rfl | ⟨1, _⟩ => rfl)).trans (at2_mk v i.isLt j.isLt).symm

theorem at3_fin {a b c : ℕ} (v : (sh3 a b c).Idx → EReal) (i : Fin a) (j : Fin b) (k : Fin c) : v (ix3 i j k) = at3 v i j k :=
  (congrArg v (funext fun x => by match x with | ⟨0, _⟩ => rfl | ⟨1, _⟩ => rfl | ⟨2, _⟩ => rfl)).trans
    (at3_mk v i.isLt j.isLt k.isLt).symm

end Cert.Ffn

end
-- ==== Proof.Ffn.Arr.lean ====
/-
  The feed-forward call's result array: every block of the inputs is a block of the arguments, so every block of the
  result is the common form's.
-/
module

public import proofs.«01_k».proof.Proof.Ffn.Point
public import proofs.«01_k».proof.Proof.Ffn.Global
public import proofs.«01_k».proof.Proof.Ffn.Names
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg)

/-- The kernel's arguments at natural numbers. -/
def kerArgs (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0])
theorem idx8 : ∀ t : Fin cfg0.N, win0_8.index t = ![t.val / 4, t.val % 4, 0] :=
  (by decide +kernel : ∀ t : Fin grid0.N, win0_8.index t = ![t.val / 4, t.val % 4, 0])

theorem t_lt (t : Fin cfg0.N) : t.val < 32 := lt_of_lt_of_eq t.isLt N_0

theorem iblk_x (c : Dev nD) (t : Fin cfg0.N) (r : Fin 1024) (q : Fin 1024) :
    (show S1x1024x1024.Idx → EReal from iblk m c 0 t) (ix3 0 r q)
      = (show S8x4096x1024.Idx → EReal from m ((c : Thread nD τ).loc main_arg0))
        (ix3 ⟨t.val / 4, by have := t_lt t; omega⟩ ⟨1024 * (t.val % 4) + r.val, by omega⟩ q) := by
  have := t_lt t
  blk_ext [iblk, V, idx0 t]

theorem iblk_md (c : Dev nD) (t : Fin cfg0.N) (j : Fin 3) (k : Fin 1024) :
    (show S1x3x1024.Idx → EReal from iblk m c 1 t) (ix3 0 j k)
      = (show S8x6144.Idx → EReal from m ((c : Thread nD τ).loc main_arg1))
        (ix2 ⟨t.val / 4, by have := t_lt t; omega⟩ ⟨3072 + 1024 * j.val + k.val, by omega⟩) := by
  have := t_lt t
  show V m c main_v1 (((cfg0.win 1).blk t).view.emb (ix3 0 j k)) = _
  entry_read
  pointwise
  blk_ext [idx1 t]

theorem iblk_gpre (c : Dev nD) (t : Fin cfg0.N) (k : Fin 1024) :
    (show S1x1024.Idx → EReal from iblk m c 2 t) (ix2 0 k)
      = (show S1024.Idx → EReal from m ((c : Thread nD τ).loc main_arg2)) (ix1 k) := by
  have e := (idx2 t).1
  show V m c main_v2 (((cfg0.win 2).blk t).view.emb (ix2 0 k)) = _
  entry_read
  pointwise
  blk_ext [e]

theorem iblk_gpost (c : Dev nD) (t : Fin cfg0.N) (k : Fin 1024) :
    (show S1x1024.Idx → EReal from iblk m c 3 t) (ix2 0 k)
      = (show S1024.Idx → EReal from m ((c : Thread nD τ).loc main_arg3)) (ix1 k) := by
  have e := (idx2 t).2.1
  show V m c main_v3 (((cfg0.win 3).blk t).view.emb (ix2 0 k)) = _
  entry_read
  pointwise
  blk_ext [e]

theorem iblk_wup (c : Dev nD) (t : Fin cfg0.N) (k : Fin 1024) (j : Fin 5632) :
    (show S1024x5632.Idx → EReal from iblk m c 4 t) (ix2 k j)
      = (show S1024x5632.Idx → EReal from m ((c : Thread nD τ).loc main_arg4)) (ix2 k j) := by
  have e := (idx2 t).2.2.1
  blk_ext [iblk, V, e]

theorem iblk_wdw (c : Dev nD) (t : Fin cfg0.N) (k : Fin 3) (j : Fin 5632) :
    (show S3x5632.Idx → EReal from iblk m c 5 t) (ix2 k j)
      = (show S3x5632.Idx → EReal from m ((c : Thread nD τ).loc main_arg5)) (ix2 k j) := by
  have e := (idx2 t).2.2.2.1
  blk_ext [iblk, V, e]

theorem iblk_bdw (c : Dev nD) (t : Fin cfg0.N) (k : Fin 5632) :
    (show S1x5632.Idx → EReal from iblk m c 6 t) (ix2 0 k)
      = (show S5632.Idx → EReal from m ((c : Thread nD τ).loc main_arg6)) (ix1 k) := by
  have e := (idx2 t).2.2.2.2.1
  show V m c main_v4 (((cfg0.win 6).blk t).view.emb (ix2 0 k)) = _
  entry_read
  pointwise
  blk_ext [e]

theorem iblk_wdn (c : Dev nD) (t : Fin cfg0.N) (k : Fin 2816) (j : Fin 1024) :
    (show S2816x1024.Idx → EReal from iblk m c 7 t) (ix2 k j)
      = (show S2816x1024.Idx → EReal from m ((c : Thread nD τ).loc main_arg7)) (ix2 k j) := by
  have e := (idx2 t).2.2.2.2.2
  blk_ext [iblk, V, e]

/-- A point's input blocks are the arguments' block of its coordinates. -/
theorem blk (c : Dev nD) (t : Fin cfg0.N) : Blk (kerArgs m c) (t.val / 4) (t.val % 4) (inp m c t) := by
  have ht := t_lt t
  constructor
  · intro r hr q hq
    refine ((at3_fin (a := 1) (b := 1024) (c := 1024) (iblk m c 0 t) 0 ⟨r, hr⟩ ⟨q, hq⟩).symm.trans (iblk_x m c t ⟨r, hr⟩ ⟨q, hq⟩)).trans ?_
    exact at3_fin (a := 8) (b := 4096) (c := 1024) (m ((c : Thread nD τ).loc main_arg0)) _ _ _
  · intro j hj k hk
    refine ((at3_fin (a := 1) (b := 3) (c := 1024) (iblk m c 1 t) 0 ⟨j, hj⟩ ⟨k, hk⟩).symm.trans (iblk_md m c t ⟨j, hj⟩ ⟨k, hk⟩)).trans ?_
    exact at2_fin (a := 8) (b := 6144) (m ((c : Thread nD τ).loc main_arg1)) _ _
  · intro k hk
    exact ((at2_fin (a := 1) (b := 1024) (iblk m c 2 t) 0 ⟨k, hk⟩).symm.trans (iblk_gpre m c t ⟨k, hk⟩)).trans
      (at1_fin (a := 1024) (m ((c : Thread nD τ).loc main_arg2)) ⟨k, hk⟩)
  · intro k hk
    exact ((at2_fin (a := 1) (b := 1024) (iblk m c 3 t) 0 ⟨k, hk⟩).symm.trans (iblk_gpost m c t ⟨k, hk⟩)).trans
      (at1_fin (a := 1024) (m ((c : Thread nD τ).loc main_arg3)) ⟨k, hk⟩)
  · intro k hk j hj
    exact ((at2_fin (a := 1024) (b := 5632) (iblk m c 4 t) ⟨k, hk⟩ ⟨j, hj⟩).symm.trans (iblk_wup m c t ⟨k, hk⟩ ⟨j, hj⟩)).trans
      (at2_fin (a := 1024) (b := 5632) (m ((c : Thread nD τ).loc main_arg4)) ⟨k, hk⟩ ⟨j, hj⟩)
  · intro k hk j hj
    exact ((at2_fin (a := 3) (b := 5632) (iblk m c 5 t) ⟨k, hk⟩ ⟨j, hj⟩).symm.trans (iblk_wdw m c t ⟨k, hk⟩ ⟨j, hj⟩)).trans
      (at2_fin (a := 3) (b := 5632) (m ((c : Thread nD τ).loc main_arg5)) ⟨k, hk⟩ ⟨j, hj⟩)
  · intro k hk
    exact ((at2_fin (a := 1) (b := 5632) (iblk m c 6 t) 0 ⟨k, hk⟩).symm.trans (iblk_bdw m c t ⟨k, hk⟩)).trans
      (at1_fin (a := 5632) (m ((c : Thread nD τ).loc main_arg6)) ⟨k, hk⟩)
  · intro k hk j hj
    exact ((at2_fin (a := 2816) (b := 1024) (iblk m c 7 t) ⟨k, hk⟩ ⟨j, hj⟩).symm.trans (iblk_wdn m c t ⟨k, hk⟩ ⟨j, hj⟩)).trans
      (at2_fin (a := 2816) (b := 1024) (m ((c : Thread nD τ).loc main_arg7)) ⟨k, hk⟩ ⟨j, hj⟩)

/-- The rows before a point's block are the padded ones. -/
theorem oldRows_eq (c : Dev nD) (t : Fin cfg0.N) (r : ℕ) (h6 : 6 ≤ r) (h8 : r < 8) (col : ℕ) (hc : col < 5632) :
    oldRows m c t r col = (kerArgs m c).pad (t.val / 4) (1024 * (t.val % 4) + r - 6) col := by
  unfold oldRows Args.pad
  by_cases h : t.val % 4 = 0
  · rw [if_pos h, if_pos (by omega)]
  · rw [if_neg h, if_neg (by omega)]
    refine (upS_eq (blk m c (prevPt t)) (by omega) hc).trans ?_
    have e0 : (prevPt t).val / 4 = t.val / 4 := by show (t.val - 1) / 4 = _; omega
    have e1 : (prevPt t).val % 4 = t.val % 4 - 1 := by show (t.val - 1) % 4 = _; omega
    rw [e0, e1]; congr 1; omega

/-- What a point leaves in the result's staging buffer is the common form's block. -/
theorem outBlk_at (c : Dev nD) (t : Fin cfg0.N) (r q : Fin 1024) :
    outS (inp m c t) (oldRows m c t) r q = (kerArgs m c).out (t.val / 4) (1024 * (t.val % 4) + r) q :=
  outS_eq (blk m c t) (fun r h6 h8 col hc => oldRows_eq m c t r h6 h8 col hc) r.isLt q.isLt

/-- The result array. -/
def kerOut (c : Dev nD) : S8x4096x1024.Idx → EReal := mk3 8 4096 1024 (kerArgs m c).out

theorem final (c : Dev nD) : (dat m 0 c).arrAt 8 cfg0.N = kerOut m c := by
  refine (dat m 0 c).arrAt_eq_of_covers 8 _ (by decide +kernel) fun t hf y => ?_
  show outS (inp m c t) (oldRows m c t) ((y 1).val) ((y 2).val) = (kerArgs m c).out (((cfg0.win 8).blk t).view.emb y 0).val
    (((cfg0.win 8).blk t).view.emb y 1).val (((cfg0.win 8).blk t).view.emb y 2).val
  refine (outBlk_at m c t (y 1) (y 2)).trans ?_
  have e := idx8 t
  have h0 : (y 0).val < 1 := (y 0).isLt
  congr 1
  · blk_simp [e]
  · blk_simp [e]; omega
  · blk_simp [e]

/-- The call's run: the result is the common form's, and the arguments are unchanged. -/
theorem ker_run : θ_run defs (onTc (τ := τ) (main (F := Ideal))) ⟨m, fun _ => 0, ρ⟩ fun r => ∀ c : Dev nD,
      r.2.mem ((c : Thread nD τ).loc main_v5) = kerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 8).trans (final m c),
      ((h.1 c).1 0).trans (((dat m 0 c).arrAt_in 0 rfl _).trans ((dat_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 4).trans (((dat m 0 c).arrAt_in 4 rfl _).trans ((dat_A m c 4).trans (V_main_arg4 m c))),
      ((h.1 c).1 5).trans (((dat m 0 c).arrAt_in 5 rfl _).trans ((dat_A m c 5).trans (V_main_arg5 m c))),
      ((h.1 c).2 main_arg6 (Pipeline.mem_restRefs_of main_arg6 (by decide) (by decide))).trans (V_main_arg6 m c),
      ((h.1 c).1 7).trans (((dat m 0 c).arrAt_in 7 rfl _).trans ((dat_A m c 7).trans (V_main_arg7 m c)))⟩) (run m ρ)

end Cert.Ffn

end
-- ==== Proof.Ffn.Ref.lean ====
/-
  The reference's feed-forward part at natural numbers: its intermediate arrays are the common form's.
-/
module

public import proofs.«01_k».proof.Proof.Ffn.Global
public import proofs.«01_k».proof.Proof.Gen.Reference2Ideal.Run
public import proofs.«01_k».proof.Proof.Ffn.Names

@[expose] public section

set_option maxRecDepth 16384

noncomputable section

open scoped BigOperators

namespace Cert.Ffn

open Idealize.ShloMosaic Idealize.ShloMosaic.TcCoe Idealize.ShloMosaic.StableHlo Idealize.SL.Sem Cert.Reference2Ideal Cert.Reference2Ideal.Value

theorem num_one : num 0x3F800000#32 = 1 := by simp only [num]; exact Ideal.ofBits_one_f32

variable (V0 : Valuation τ sig (Elt Ideal))

/-- The reference's arguments at natural numbers. -/
def refArgs : Args :=
  argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7))

theorem ref_x (b : Fin 8) (r : Fin 4096) (k : Fin 1024) : (show S8x4096x1024.Idx → EReal from V0 (Proc.devRef .tc main_arg0)) (ix3 b r k) = (refArgs V0).x b r k :=
  at3_fin (a := 8) (b := 4096) (c := 1024) _ b r k
theorem ref_md (b : Fin 8) (k : Fin 6144) : (show S8x6144.Idx → EReal from V0 (Proc.devRef .tc main_arg1)) (ix2 b k) = (refArgs V0).md b k :=
  at2_fin (a := 8) (b := 6144) _ b k
theorem ref_gpre (k : Fin 1024) : (show S1024.Idx → EReal from V0 (Proc.devRef .tc main_arg2)) (ix1 k) = (refArgs V0).gpre k :=
  at1_fin (a := 1024) _ k
theorem ref_gpost (k : Fin 1024) : (show S1024.Idx → EReal from V0 (Proc.devRef .tc main_arg3)) (ix1 k) = (refArgs V0).gpost k :=
  at1_fin (a := 1024) _ k
theorem ref_wup (k : Fin 1024) (c : Fin 5632) : (show S1024x5632.Idx → EReal from V0 (Proc.devRef .tc main_arg4)) (ix2 k c) = (refArgs V0).wup k c :=
  at2_fin (a := 1024) (b := 5632) _ k c
theorem ref_wdw (k : Fin 3) (c : Fin 5632) : (show S3x5632.Idx → EReal from V0 (Proc.devRef .tc main_arg5)) (ix2 k c) = (refArgs V0).wdw k c :=
  at2_fin (a := 3) (b := 5632) _ k c
theorem ref_bdw (c : Fin 5632) : (show S5632.Idx → EReal from V0 (Proc.devRef .tc main_arg6)) (ix1 c) = (refArgs V0).bdw c :=
  at1_fin (a := 5632) _ c
theorem ref_wdn (k : Fin 2816) (c : Fin 1024) : (show S2816x1024.Idx → EReal from V0 (Proc.devRef .tc main_arg7)) (ix2 k c) = (refArgs V0).wdn k c :=
  at2_fin (a := 2816) (b := 1024) _ k c

/-- The padded up projection. -/
theorem ref_pad (b : Fin 8) (e : Fin 4098) (c : Fin 5632) :
    (show S8x4098x5632.Idx → EReal from res_main_v33 V0) (ix3 b e c) = (refArgs V0).pad b e c := by
  unfold res_main_v33 Args.pad
  pointwise
  have he := e.isLt
  by_cases h : e.val < 2
  · rw [dif_neg (by omega), if_pos h]
    show (((0#32 : BitVec 32).toInt : ℝ) : EReal) = 0
    simp
  · rw [dif_pos (by omega), if_neg h]
    refine Finset.sum_congr rfl fun k _ => ?_
    rw [Args.h, rmsF, num_one]
    simp only [ref_x, ref_md, ref_gpre, ref_wup]

/-- The convolution. -/
theorem ref_conv (b : Fin 8) (r : Fin 4096) (c : Fin 5632) :
    (show S8x4096x5632.Idx → EReal from res_main_v56 V0) (ix3 b r c) = (refArgs V0).conv b r c := by
  unfold res_main_v56 Args.conv
  pointwise
  simp only [ref_wdw, ref_bdw, ref_pad]
  rfl

/-- The down projection. -/
theorem ref_down (b : Fin 8) (r : Fin 4096) (q : Fin 1024) :
    (show S8x4096x1024.Idx → EReal from res_main_v74 V0) (ix3 b r q) = (refArgs V0).down b r q := by
  unfold res_main_v74 Args.down
  pointwise [res_main_v58]
  refine Finset.sum_congr rfl fun k _ => ?_
  rw [Args.act, geluF, num_one]
  simp only [ref_conv, ref_wdn]
  rw [mul_comm ((refArgs V0).conv b r (2816 + k) * (refArgs V0).conv b r (2816 + k))]

/-- The reference's run: its result is the common form's, and its arguments are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 8) (s : Fin 4096) (q : Fin 1024), (show S8x4096x1024.Idx → EReal from r.2.mem ((c.tc : Thread nD τ).loc main_v90)) (ix3 b s q)
        = (refArgs (launchContents m c)).out b s q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨fun b s q => by
    refine (congrFun (h c).1 (ix3 b s q)).trans ?_
    unfold Args.out rmsF
    pointwise
    simp only [ref_x, ref_md, ref_gpost, ref_down], (h c).2⟩) (Cert.Reference2Ideal.Value.run (F := Ideal) m ρ)

end Cert.Ffn

end
-- ==== Proof.Ffn.Claim.lean ====
/-
  The feed-forward call's claim: over the extended reals the kernel's result is the reference's, entry by entry.
-/
module

public import proofs.«01_k».proof.Proof.Ffn.Arr
public import proofs.«01_k».proof.Proof.Ffn.Ref
public import proofs.«01_k».proof.Defs

@[expose] public section

set_option maxRecDepth 16384

noncomputable section

namespace Cert.Ffn

open Idealize.ShloMosaic Idealize.ShloMosaic.TcCoe Idealize.SL.Sem

theorem algebraic : Cert.algebraic_Kernel2Ideal_Reference2Ideal := by
  intro m g m' g' _ hagree
  refine ⟨fun c => kerOut m c, ker_run m g, ?_⟩
  refine (θ_run Cert.Reference2Ideal.defs _ _).mono (fun r h c => ⟨?_, (h c).2⟩) (ref_run m' g')
  have ea : refArgs (StableHlo.launchContents m' c) = kerArgs m c := by
    obtain ⟨h0, h1, h2, h3, h4, h5, h6, h7⟩ := hagree c
    unfold refArgs kerArgs
    congr 1
  funext i
  have hi := (h c).1 (i 0) (i 1) (i 2)
  rw [ea] at hi
  exact (congrArg _ (eq_ix3 i)).trans hi

end Cert.Ffn

end
-- ==== Proof.Adaln.Claim.lean ====
/-
  The modulation call's claim: over the extended reals the kernel's result is the reference's, entry by entry.
-/
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Pointwise

@[expose] public section

set_option maxRecDepth 16384

noncomputable section

open scoped BigOperators

namespace Cert.Adaln

open Cert.Kernel3Ideal Cert.Kernel3Ideal.Gen
open Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, win0_0.index t = ![0, 0] ∧ win0_1.index t = ![0, t.val] ∧ win0_2.index t = ![0, t.val]
    ∧ win0_3.index t = ![0, t.val])

/-- The result at an index. -/
def out (x : S8x1024.Idx → EReal) (w : S1024x6144.Idx → EReal) (b : S6144.Idx → EReal) : S8x6144.Idx → EReal := fun i =>
  (∑ k : Fin 1024, x (ix2 (i 0) k) * Ideal.div 1 (1 + Ideal.exp (-(x (ix2 (i 0) k)))) * w (ix2 k (i 1))) + b (ix1 (i 1))

/-- The first operand's block is the whole array. -/
theorem iblk_x (c : Dev nD) (t : Fin cfg0.N) (i : Fin 8) (k : Fin 1024) :
    (show S8x1024.Idx → EReal from iblk m c 0 t) (ix2 i k)
      = (show S8x1024.Idx → EReal from m ((c : Thread nD τ).loc main_arg0)) (ix2 i k) := by
  have e := (idx t).1
  blk_ext [iblk, V, e]

/-- The weights' block of point `t`: columns `1024 t` and on. -/
theorem iblk_w (c : Dev nD) (t : Fin cfg0.N) (k j : Fin 1024) (h : 1024 * t.val + j.val < 6144) :
    (show S1024x1024.Idx → EReal from iblk m c 1 t) (ix2 k j)
      = (show S1024x6144.Idx → EReal from m ((c : Thread nD τ).loc main_arg1)) (ix2 k ⟨1024 * t.val + j.val, h⟩) := by
  have e := (idx t).2.1
  blk_ext [iblk, V, e]

/-- The bias's block of point `t`, read from the vector the host reshapes. -/
theorem iblk_b (c : Dev nD) (t : Fin cfg0.N) (j : Fin 1024) (h : 1024 * t.val + j.val < 6144) :
    (show S1x1024.Idx → EReal from iblk m c 2 t) (ix2 0 j)
      = (show S6144.Idx → EReal from m ((c : Thread nD τ).loc main_arg2)) (ix1 ⟨1024 * t.val + j.val, h⟩) := by
  have e := (idx t).2.2.1
  show V m c main_v0 (((cfg0.win 2).blk t).view.emb (ix2 0 j)) = _
  entry_read
  pointwise
  blk_ext [e]

/-- The body's value at an index of a point's block. -/
theorem point (c : Dev nD) (t : Fin cfg0.N) (y : S8x1024.Idx) :
    k0_pay1 (F := Ideal) (iblk m c 0 t) (iblk m c 1 t) (iblk m c 2 t) y
      = out (m ((c : Thread nD τ).loc main_arg0)) (m ((c : Thread nD τ).loc main_arg1)) (m ((c : Thread nD τ).loc main_arg2))
        (((cfg0.win 3).blk t).view.emb y) := by
  obtain ⟨i, j, rfl⟩ : ∃ (i : Fin 8) (j : Fin 1024), y = ix2 i j := ⟨y 0, y 1, eq_ix2 y⟩
  have ht : t.val < 6 := lt_of_lt_of_eq t.isLt N_0
  have h : 1024 * t.val + j.val < 6144 := by omega
  have e := (idx t).2.2.2
  have ei : ((cfg0.win 3).blk t).view.emb (ix2 i j)
      = (ix2 i ⟨1024 * t.val + j.val, h⟩ : S8x6144.Idx) := by
    blk_ext [e]
  rw [ei]
  unfold out
  pointwise [k0_pay1]
  simp only [iblk_x, iblk_w m c t _ _ h, iblk_b m c t _ h]
  refine congrArg (· + _) (Finset.sum_congr rfl fun k _ => ?_)
  rfl

/-- The blocks of all points make up the result. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The claim. -/
theorem algebraic : Cert.algebraic_Kernel3Ideal_Reference3Ideal := by
  intro m g m' g' _ hagree
  refine ⟨fun c => out (m ((c : Thread nD τ).loc main_arg0)) (m ((c : Thread nD τ).loc main_arg1)) (m ((c : Thread nD τ).loc main_arg2)),
    (θ_run defs _ _).mono (fun r h c => ⟨(h c).1.trans (final m c), (h c).2⟩) (Cert.Kernel3Ideal.Value.run_blocks (F := Ideal) m g), ?_⟩
  refine (θ_run Cert.Reference3Ideal.defs _ _).mono (fun r h c => ⟨(h c).1.trans ?_, (h c).2⟩)
    (Cert.Reference3Ideal.Value.run (F := Ideal) m' g')
  obtain ⟨h0, h1, h2⟩ := hagree c
  rw [h0, h1, h2]
  funext i
  rw [eq_ix2 i]
  unfold out
  pointwise

end Cert.Adaln

end
-- ==== Proof.lean ====
/- The claims about the mixer call, the feed-forward call, the modulation call and their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Mixer.Frame
public import proofs.«01_k».proof.Proof.Mixer.FrameIdeal
public import proofs.«01_k».proof.Proof.Ffn.Claim
public import proofs.«01_k».proof.Proof.Adaln.Claim
public import Idealize.ShloMosaic.Adequacy
public import Idealize.ShloMosaic.Init

@[expose] public section

noncomputable section

namespace Cert.Proof

open Idealize.ShloMosaic Idealize.SL.Sem Cert.Kernel2

/-- The mixer reference's frame, from its run. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The feed-forward reference's frame, from its run. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The modulation reference's frame, from its run. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Mixer.Kernel.frame m ρ, fun m ρ _ => Cert.Mixer.KernelIdeal.frame m ρ, frame_reference,
    fun m ρ _ => Cert.Kernel2.Gen.frame m ρ, fun m ρ _ => Cert.Kernel2Ideal.Gen.frame m ρ,
    frame_reference2,
    fun m ρ _ => Cert.Kernel3.Gen.frame m ρ, fun m ρ _ => Cert.Kernel3Ideal.Gen.frame m ρ,
    frame_reference3, IdealRules.named_const.statement _ _ _ _ _ rfl, trivial, Cert.Ffn.algebraic, trivial, Cert.Adaln.algebraic⟩

end Cert.Proof

end
